-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.PackStatement Cert.KernelIdeal.S1024x128
  ∧ IdealRules.bf16_pair.Statement Cert.KernelIdeal.S1024x2x128 Cert.KernelIdeal.S1024x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v22)) (v3 : (c : Dev Cert.KernelIdeal.nD) → Buf (Elt Ideal) ((c.tc : Thread Cert.KernelIdeal.nD Cert.KernelIdeal.τ).loc Cert.KernelIdeal.main_v23)) (v4 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_v23) = v3 c
          ∧ r.2.mem ((c.tc : Thread Cert.KernelIdeal.nD Cert.KernelIdeal.τ).loc Cert.KernelIdeal.main_v24) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v16) = v3 c
          ∧ r.2.mem ((c.tc : Thread Cert.ReferenceIdeal.nD Cert.ReferenceIdeal.τ).loc Cert.ReferenceIdeal.main_v17) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x3072x7168 : Shape := ⟨3, ![8, 3072, 7168]⟩
abbrev S7168 : Shape := ⟨1, ![7168]⟩
abbrev S24576x7168 : Shape := ⟨2, ![24576, 7168]⟩
abbrev S24576 : Shape := ⟨1, ![24576]⟩
abbrev S8x3072 : Shape := ⟨2, ![8, 3072]⟩
abbrev S64 : Shape := ⟨1, ![64]⟩
abbrev S_ : Shape := ⟨0, ![]⟩
abbrev S128 : Shape := ⟨1, ![128]⟩
abbrev S1x128 : Shape := ⟨2, ![1, 128]⟩
abbrev S1x7168 : Shape := ⟨2, ![1, 7168]⟩
abbrev S24576x1 : Shape := ⟨2, ![24576, 1]⟩
abbrev S24576x128 : Shape := ⟨2, ![24576, 128]⟩
abbrev S256x7168 : Shape := ⟨2, ![256, 7168]⟩
abbrev S256x1 : Shape := ⟨2, ![256, 1]⟩
abbrev S256x128 : Shape := ⟨2, ![256, 128]⟩
abbrev S256 : Shape := ⟨1, ![256]⟩
abbrev S256x256 : Shape := ⟨2, ![256, 256]⟩
abbrev S1x24576 : Shape := ⟨2, ![1, 24576]⟩
abbrev S24576x64x128 : Shape := ⟨3, ![24576, 64, 128]⟩
abbrev S1024x7168 : Shape := ⟨2, ![1024, 7168]⟩
abbrev S2048x7168 : Shape := ⟨2, ![2048, 7168]⟩
abbrev S1x2048 : Shape := ⟨2, ![1, 2048]⟩
abbrev S1024x128 : Shape := ⟨2, ![1024, 128]⟩
abbrev S1024x16x128 : Shape := ⟨3, ![1024, 16, 128]⟩
abbrev S1024x2048 : Shape := ⟨2, ![1024, 2048]⟩
abbrev S1024x8x128 : Shape := ⟨3, ![1024, 8, 128]⟩
abbrev S8192x128 : Shape := ⟨2, ![8192, 128]⟩
abbrev S1024x2x128 : Shape := ⟨3, ![1024, 2, 128]⟩
abbrev S1024x1x128 : Shape := ⟨3, ![1024, 1, 128]⟩
abbrev S8x3072x64x128 : Shape := ⟨4, ![8, 3072, 64, 128]⟩
abbrev S8x3072x1 : Shape := ⟨3, ![8, 3072, 1]⟩

abbrev nBuf : Space → Nat
  | .hbm => 38
  | .vmem => 58
  | .smem => 0
  | _ => 0

abbrev bufTy : (tb : Table) → Fin (tcTables nBuf tb) → BufTy
  | .hbm, ⟨0, _⟩ => ⟨S8x3072x7168, .bf16⟩
  | .hbm, ⟨1, _⟩ => ⟨S7168, .f32⟩
  | .hbm, ⟨2, _⟩ => ⟨S24576x7168, .fp8e4m3⟩
  | .hbm, ⟨3, _⟩ => ⟨S24576, .f32⟩
  | .hbm, ⟨4, _⟩ => ⟨S8x3072, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S128, .f32⟩
  | .hbm, ⟨20, _⟩ => ⟨S1x128, .f32⟩
  | .hbm, ⟨21, _⟩ => ⟨S24576x7168, .bf16⟩
  | .hbm, ⟨22, _⟩ => ⟨S1x7168, .f32⟩
  | .hbm, ⟨23, _⟩ => ⟨S24576x1, .i32⟩
  | .hbm, ⟨24, _⟩ => ⟨S24576x7168, .fp8e4m3⟩
  | .hbm, ⟨25, _⟩ => ⟨S24576x1, .f32⟩
  | .hbm, ⟨26, _⟩ => ⟨S24576x128, .f32⟩
  | .hbm, ⟨27, _⟩ => ⟨S24576x128, .f32⟩
  | .hbm, ⟨28, _⟩ => ⟨S24576x128, .f32⟩
  | .hbm, ⟨29, _⟩ => ⟨S1x24576, .f32⟩
  | .hbm, ⟨30, _⟩ => ⟨S24576x64x128, .bf16⟩
  | .hbm, ⟨31, _⟩ => ⟨S24576x64x128, .bf16⟩
  | .hbm, ⟨32, _⟩ => ⟨S24576x64x128, .bf16⟩
  | .hbm, ⟨33, _⟩ => ⟨S8x3072x64x128, .bf16⟩
  | .hbm, ⟨34, _⟩ => ⟨S8x3072x64x128, .bf16⟩
  | .hbm, ⟨35, _⟩ => ⟨S8x3072x64x128, .bf16⟩
  | .hbm, ⟨36, _⟩ => ⟨S8x3072x7168, .fp8e4m3⟩
  | .hbm, ⟨37, _⟩ => ⟨S8x3072x1, .f32⟩
  | .local _ .vmem, ⟨0, _⟩ => ⟨S256x7168, .bf16⟩
  | .local _ .vmem, ⟨1, _⟩ => ⟨S256x7168, .bf16⟩
  | .local _ .vmem, ⟨2, _⟩ => ⟨S1x7168, .f32⟩
  | .local _ .vmem, ⟨3, _⟩ => ⟨S256x1, .i32⟩
  | .local _ .vmem, ⟨4, _⟩ => ⟨S256x1, .i32⟩
  | .local _ .vmem, ⟨5, _⟩ => ⟨S1x128, .f32⟩
  | .local _ .vmem, ⟨6, _⟩ => ⟨S256x7168, .fp8e4m3⟩
  | .local _ .vmem, ⟨7, _⟩ => ⟨S256x7168, .fp8e4m3⟩
  | .local _ .vmem, ⟨8, _⟩ => ⟨S256x1, .f32⟩
  | .local _ .vmem, ⟨9, _⟩ => ⟨S256x1, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S1024x7168, .fp8e4m3⟩
  | .local _ .vmem, ⟨17, _⟩ => ⟨S1024x7168, .fp8e4m3⟩
  | .local _ .vmem, ⟨18, _⟩ => ⟨S2048x7168, .fp8e4m3⟩
  | .local _ .vmem, ⟨19, _⟩ => ⟨S2048x7168, .fp8e4m3⟩
  | .local _ .vmem, ⟨20, _⟩ => ⟨S1x2048, .f32⟩
  | .local _ .vmem, ⟨21, _⟩ => ⟨S1x2048, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x16x128, .bf16⟩
  | .local _ .vmem, ⟨29, _⟩ => ⟨S1024x16x128, .bf16⟩
  | .local _ .vmem, ⟨30, _⟩ => ⟨S1024x7168, .fp8e4m3⟩
  | .local _ .vmem, ⟨31, _⟩ => ⟨S1024x7168, .fp8e4m3⟩
  | .local _ .vmem, ⟨32, _⟩ => ⟨S2048x7168, .fp8e4m3⟩
  | .local _ .vmem, ⟨33, _⟩ => ⟨S2048x7168, .fp8e4m3⟩
  | .local _ .vmem, ⟨34, _⟩ => ⟨S1x2048, .f32⟩
  | .local _ .vmem, ⟨35, _⟩ => ⟨S1x2048, .f32⟩
  | .local _ .vmem, ⟨36, _⟩ => ⟨S1024x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S1024x128, .f32⟩
  | .local _ .vmem, ⟨41, _⟩ => ⟨S1024x128, .f32⟩
  | .local _ .vmem, ⟨42, _⟩ => ⟨S1024x16x128, .bf16⟩
  | .local _ .vmem, ⟨43, _⟩ => ⟨S1024x16x128, .bf16⟩
  | .local _ .vmem, ⟨44, _⟩ => ⟨S1024x7168, .fp8e4m3⟩
  | .local _ .vmem, ⟨45, _⟩ => ⟨S1024x7168, .fp8e4m3⟩
  | .local _ .vmem, ⟨46, _⟩ => ⟨S2048x7168, .fp8e4m3⟩
  | .local _ .vmem, ⟨47, _⟩ => ⟨S2048x7168, .fp8e4m3⟩
  | .local _ .vmem, ⟨48, _⟩ => ⟨S1x2048, .f32⟩
  | .local _ .vmem, ⟨49, _⟩ => ⟨S1x2048, .f32⟩
  | .local _ .vmem, ⟨50, _⟩ => ⟨S1024x128, .f32⟩
  | .local _ .vmem, ⟨51, _⟩ => ⟨S1024x128, .f32⟩
  | .local _ .vmem, ⟨52, _⟩ => ⟨S1024x128, .f32⟩
  | .local _ .vmem, ⟨53, _⟩ => ⟨S1024x128, .f32⟩
  | .local _ .vmem, ⟨54, _⟩ => ⟨S1024x128, .f32⟩
  | .local _ .vmem, ⟨55, _⟩ => ⟨S1024x128, .f32⟩
  | .local _ .vmem, ⟨56, _⟩ => ⟨S1024x16x128, .bf16⟩
  | .local _ .vmem, ⟨57, _⟩ => ⟨S1024x16x128, .bf16⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc3_stg0_0 : Ref sig .tc := ⟨.vmem, 44, rfl⟩
abbrev cc3_stg0_1 : Ref sig .tc := ⟨.vmem, 45, rfl⟩
abbrev cc3_stg1_0 : Ref sig .tc := ⟨.vmem, 46, rfl⟩
abbrev cc3_stg1_1 : Ref sig .tc := ⟨.vmem, 47, rfl⟩
abbrev cc3_stg2_0 : Ref sig .tc := ⟨.vmem, 48, rfl⟩
abbrev cc3_stg2_1 : Ref sig .tc := ⟨.vmem, 49, rfl⟩
abbrev cc3_stg3_0 : Ref sig .tc := ⟨.vmem, 50, rfl⟩
abbrev cc3_stg3_1 : Ref sig .tc := ⟨.vmem, 51, rfl⟩
abbrev cc3_stg4_0 : Ref sig .tc := ⟨.vmem, 52, rfl⟩
abbrev cc3_stg4_1 : Ref sig .tc := ⟨.vmem, 53, rfl⟩
abbrev cc3_stg5_0 : Ref sig .tc := ⟨.vmem, 54, rfl⟩
abbrev cc3_stg5_1 : Ref sig .tc := ⟨.vmem, 55, rfl⟩
abbrev cc3_stg6_0 : Ref sig .tc := ⟨.vmem, 56, rfl⟩
abbrev cc3_stg6_1 : Ref sig .tc := ⟨.vmem, 57, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39
abbrev cc2_sem5_0 : DmaSem sig := 40
abbrev cc2_sem5_1 : DmaSem sig := 41
abbrev cc2_sem6_0 : DmaSem sig := 42
abbrev cc2_sem6_1 : DmaSem sig := 43
abbrev cc3_sem0_0 : DmaSem sig := 44
abbrev cc3_sem0_1 : DmaSem sig := 45
abbrev cc3_sem1_0 : DmaSem sig := 46
abbrev cc3_sem1_1 : DmaSem sig := 47
abbrev cc3_sem2_0 : DmaSem sig := 48
abbrev cc3_sem2_1 : DmaSem sig := 49
abbrev cc3_sem3_0 : DmaSem sig := 50
abbrev cc3_sem3_1 : DmaSem sig := 51
abbrev cc3_sem4_0 : DmaSem sig := 52
abbrev cc3_sem4_1 : DmaSem sig := 53
abbrev cc3_sem5_0 : DmaSem sig := 54
abbrev cc3_sem5_1 : DmaSem sig := 55
abbrev cc3_sem6_0 : DmaSem sig := 56
abbrev cc3_sem6_1 : DmaSem sig := 57

abbrev nD : Nat := 1
abbrev τ : Topo := Topo.v7x

variable {F : FTy → Type} [BitOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x7168 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![24, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1024x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x7168 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1024x16x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![24, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1024x7168 .fp8e4m3 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x7168 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1024x16x128 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev grid3 : Pipeline.Grid := ⟨2, ![24, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![v0.toNat, c0_i32.toNat]

def cc3_transform_2 (i : grid3.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1024x7168 .fp8e4m3 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2048x7168 .fp8e4m3 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 2 → Memref sig .tc .vmem S1024x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 2 → Memref sig .tc .vmem S1024x16x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]
-- ==== KernelIdeal.lean ====
variable {F : FTy → Type} [FloatOps F]
-- ==== ReferenceIdeal.lean ====
abbrev S8x3072x7168 : Shape := ⟨3, ![8, 3072, 7168]⟩
abbrev S7168 : Shape := ⟨1, ![7168]⟩
abbrev S24576x7168 : Shape := ⟨2, ![24576, 7168]⟩
abbrev S24576 : Shape := ⟨1, ![24576]⟩
abbrev S8x3072 : Shape := ⟨2, ![8, 3072]⟩
abbrev S_ : Shape := ⟨0, ![]⟩
abbrev S8x3072x1 : Shape := ⟨3, ![8, 3072, 1]⟩
abbrev S1x1x7168 : Shape := ⟨3, ![1, 1, 7168]⟩
abbrev S24576x1 : Shape := ⟨2, ![24576, 1]⟩
abbrev S24576x24576 : Shape := ⟨2, ![24576, 24576]⟩
abbrev S1x253 : Shape := ⟨2, ![1, 253]⟩
abbrev S24576x253 : Shape := ⟨2, ![24576, 253]⟩
abbrev S8x3072x24576 : Shape := ⟨3, ![8, 3072, 24576]⟩
abbrev S1x1x24576 : Shape := ⟨3, ![1, 1, 24576]⟩
abbrev S8x3072x8192 : Shape := ⟨3, ![8, 3072, 8192]⟩
abbrev S8x3072x64x128 : Shape := ⟨4, ![8, 3072, 64, 128]⟩
abbrev S64 : Shape := ⟨1, ![64]⟩
abbrev S1x1x64 : Shape := ⟨3, ![1, 1, 64]⟩
abbrev S8x3072x64 : Shape := ⟨3, ![8, 3072, 64]⟩
abbrev S8x3072x1x64 : Shape := ⟨4, ![8, 3072, 1, 64]⟩
abbrev S8x3072x64x64 : Shape := ⟨4, ![8, 3072, 64, 64]⟩

abbrev nBuf : Space → Nat
  | .hbm => 93
  | .vmem => 5
  | .smem => 0
  | _ => 0

abbrev bufTy : (tb : Table) → Fin (tcTables nBuf tb) → BufTy
  | .hbm, ⟨0, _⟩ => ⟨S8x3072x7168, .bf16⟩
  | .hbm, ⟨1, _⟩ => ⟨S7168, .f32⟩
  | .hbm, ⟨2, _⟩ => ⟨S24576x7168, .fp8e4m3⟩
  | .hbm, ⟨3, _⟩ => ⟨S24576, .f32⟩
  | .hbm, ⟨4, _⟩ => ⟨S8x3072, .i32⟩
  | .hbm, ⟨5, _⟩ => ⟨S8x3072x7168, .f32⟩
  | .hbm, ⟨6, _⟩ => ⟨S8x3072x7168, .f32⟩
  | .hbm, ⟨7, _⟩ => ⟨S_, .f32⟩
  | .hbm, ⟨8, _⟩ => ⟨S8x3072, .f32⟩
  | .hbm, ⟨9, _⟩ => ⟨S8x3072x1, .f32⟩
  | .hbm, ⟨10, _⟩ => ⟨S_, .f32⟩
  | .hbm, ⟨11, _⟩ => ⟨S8x3072x1, .f32⟩
  | .hbm, ⟨12, _⟩ => ⟨S8x3072x1, .f32⟩
  | .hbm, ⟨13, _⟩ => ⟨S_, .f32⟩
  | .hbm, ⟨14, _⟩ => ⟨S8x3072x1, .f32⟩
  | .hbm, ⟨15, _⟩ => ⟨S8x3072x1, .f32⟩
  | .hbm, ⟨16, _⟩ => ⟨S8x3072x1, .f32⟩
  | .hbm, ⟨17, _⟩ => ⟨S8x3072x7168, .f32⟩
  | .hbm, ⟨18, _⟩ => ⟨S8x3072x7168, .f32⟩
  | .hbm, ⟨19, _⟩ => ⟨S1x1x7168, .f32⟩
  | .hbm, ⟨20, _⟩ => ⟨S8x3072x7168, .f32⟩
  | .hbm, ⟨21, _⟩ => ⟨S8x3072x7168, .f32⟩
  | .hbm, ⟨22, _⟩ => ⟨S24576x7168, .f32⟩
  | .hbm, ⟨23, _⟩ => ⟨S24576x7168, .fp8e4m3⟩
  | .hbm, ⟨24, _⟩ => ⟨S24576x1, .f32⟩
  | .hbm, ⟨25, _⟩ => ⟨S24576x24576, .f32⟩
  | .hbm, ⟨26, _⟩ => ⟨S8x3072x7168, .fp8e4m3⟩
  | .hbm, ⟨27, _⟩ => ⟨S8x3072x1, .f32⟩
  | .hbm, ⟨28, _⟩ => ⟨S8x3072x24576, .f32⟩
  | .hbm, ⟨29, _⟩ => ⟨S8x3072x24576, .f32⟩
  | .hbm, ⟨30, _⟩ => ⟨S8x3072x24576, .f32⟩
  | .hbm, ⟨31, _⟩ => ⟨S1x1x24576, .f32⟩
  | .hbm, ⟨32, _⟩ => ⟨S8x3072x24576, .f32⟩
  | .hbm, ⟨33, _⟩ => ⟨S8x3072x24576, .f32⟩
  | .hbm, ⟨34, _⟩ => ⟨S8x3072x8192, .f32⟩
  | .hbm, ⟨35, _⟩ => ⟨S8x3072x64x128, .f32⟩
  | .hbm, ⟨36, _⟩ => ⟨S8x3072x8192, .f32⟩
  | .hbm, ⟨37, _⟩ => ⟨S8x3072x64x128, .f32⟩
  | .hbm, ⟨38, _⟩ => ⟨S8x3072x8192, .f32⟩
  | .hbm, ⟨39, _⟩ => ⟨S8x3072x64x128, .f32⟩
  | .hbm, ⟨40, _⟩ => ⟨S64, .f32⟩
  | .hbm, ⟨41, _⟩ => ⟨S_, .f32⟩
  | .hbm, ⟨42, _⟩ => ⟨S64, .f32⟩
  | .hbm, ⟨43, _⟩ => ⟨S64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S8x3072, .f32⟩
  | .hbm, ⟨55, _⟩ => ⟨S8x3072x1, .f32⟩
  | .hbm, ⟨56, _⟩ => ⟨S1x1x64, .f32⟩
  | .hbm, ⟨57, _⟩ => ⟨S8x3072x64, .f32⟩
  | .hbm, ⟨58, _⟩ => ⟨S8x3072x64, .f32⟩
  | .hbm, ⟨59, _⟩ => ⟨S8x3072x64, .f32⟩
  | .hbm, ⟨60, _⟩ => ⟨S8x3072x64, .f32⟩
  | .hbm, ⟨61, _⟩ => ⟨S8x3072x1x64, .f32⟩
  | .hbm, ⟨62, _⟩ => ⟨S8x3072x64, .f32⟩
  | .hbm, ⟨63, _⟩ => ⟨S8x3072x1x64, .f32⟩
  | .hbm, ⟨64, _⟩ => ⟨S8x3072x64x64, .f32⟩
  | .hbm, ⟨65, _⟩ => ⟨S8x3072x64x64, .f32⟩
  | .hbm, ⟨66, _⟩ => ⟨S8x3072x64x64, .f32⟩
  | .hbm, ⟨67, _⟩ => ⟨S8x3072x64x64, .f32⟩
  | .hbm, ⟨68, _⟩ => ⟨S8x3072x64x64, .f32⟩
  | .hbm, ⟨69, _⟩ => ⟨S8x3072x64x64, .f32⟩
  | .hbm, ⟨70, _⟩ => ⟨S8x3072x64x64, .f32⟩
  | .hbm, ⟨71, _⟩ => ⟨S8x3072x64x64, .f32⟩
  | .hbm, ⟨72, _⟩ => ⟨S8x3072x64x64, .f32⟩
  | .hbm, ⟨73, _⟩ => ⟨S8x3072x64x64, .f32⟩
  | .hbm, ⟨74, _⟩ => ⟨S8x3072x64x64, .f32⟩
  | .hbm, ⟨75, _⟩ => ⟨S8x3072x64x64, .f32⟩
  | .hbm, ⟨76, _⟩ => ⟨S8x3072x64x128, .f32⟩
  | .hbm, ⟨77, _⟩ => ⟨S8x3072x64x128, .bf16⟩
  | .hbm, ⟨78, _⟩ => ⟨S8x3072x64x64, .f32⟩
  | .hbm, ⟨79, _⟩ => ⟨S8x3072x64x64, .f32⟩
  | .hbm, ⟨80, _⟩ => ⟨S8x3072x64x64, .f32⟩
  | .hbm, ⟨81, _⟩ => ⟨S8x3072x64x64, .f32⟩
  | .hbm, ⟨82, _⟩ => ⟨S8x3072x64x64, .f32⟩
  | .hbm, ⟨83, _⟩ => ⟨S8x3072x64x64, .f32⟩
  | .hbm, ⟨84, _⟩ => ⟨S8x3072x64x64, .f32⟩
  | .hbm, ⟨85, _⟩ => ⟨S8x3072x64x64, .f32⟩
  | .hbm, ⟨86, _⟩ => ⟨S8x3072x64x64, .f32⟩
  | .hbm, ⟨87, _⟩ => ⟨S8x3072x64x64, .f32⟩
  | .hbm, ⟨88, _⟩ => ⟨S8x3072x64x64, .f32⟩
  | .hbm, ⟨89, _⟩ => ⟨S8x3072x64x64, .f32⟩
  | .hbm, ⟨90, _⟩ => ⟨S8x3072x64x128, .f32⟩
  | .hbm, ⟨91, _⟩ => ⟨S8x3072x64x128, .bf16⟩
  | .hbm, ⟨92, _⟩ => ⟨S8x3072x64x128, .bf16⟩
  | .local _ .vmem, ⟨0, _⟩ => ⟨S24576x7168, .f32⟩
  | .local _ .vmem, ⟨1, _⟩ => ⟨S24576x7168, .fp8e4m3⟩
  | .local _ .vmem, ⟨2, _⟩ => ⟨S24576x7168, .fp8e4m3⟩
  | .local _ .vmem, ⟨3, _⟩ => ⟨S24576x1, .f32⟩
  | .local _ .vmem, ⟨4, _⟩ => ⟨S24576x24576, .f32⟩
  | _, _ => ⟨S8x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24576x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x24576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRun.lean ====
/- The kernel program's run: it terminates with its results and arguments at the contents of the last boundary, and these
   contents read back, boundary by boundary, to the arrays the four calls leave and to the arguments. -/
module

public import proofs.«01_k».proof.Proof.Gen.KernelIdeal.Frame
public import Idealize.ShloMosaic.Lib.StableHlo.Run
public import Idealize.ShloMosaic.Lib.StableHlo.RunClose

@[expose] public section

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, with the five results at the contents the last boundary
    gives them and the arguments as launched. -/
theorem kernel_run : θ_run defs (onTc (τ := τ) (main (F := F))) ⟨m, fun _ => 0, ρ⟩ (fun r => ∀ c : Dev nD,
      r.2.mem ((c.tc : Thread nD τ).loc main_v20) = W7 m ρ c (Proc.devRef .tc main_v20)
      ∧ r.2.mem ((c.tc : Thread nD τ).loc main_v21) = W7 m ρ c (Proc.devRef .tc main_v21)
      ∧ r.2.mem ((c.tc : Thread nD τ).loc main_v22) = W7 m ρ c (Proc.devRef .tc main_v22)
      ∧ r.2.mem ((c.tc : Thread nD τ).loc main_v23) = W7 m ρ c (Proc.devRef .tc main_v23)
      ∧ r.2.mem ((c.tc : Thread nD τ).loc main_v24) = W7 m ρ c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v20 (by decide)),
       h c _ (mem_uc main_v21 (by decide)),
       h c _ (mem_uc main_v22 (by decide)),
       h c _ (mem_uc main_v23 (by decide)),
       h c _ (mem_uc main_v24 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

/-! ### Before the first call -/

/-- The tokens' values as rows. -/
theorem W1_v12 (c : Dev nD) : W1 m ρ c (Proc.devRef .tc main_v12) = shapeCast S24576x7168 (m ((c.tc : Thread nD τ).loc main_arg0)) shapeCasts_S8x3072x7168_S24576x7168 := by
  simp only [W1, hostOps0]
  after_results_simp
  rfl

/-- The gain as a row. -/
theorem W1_v13 (c : Dev nD) : W1 m ρ c (Proc.devRef .tc main_v13) = shapeCast S1x7168 (m ((c.tc : Thread nD τ).loc main_arg1)) shapeCasts_S7168_S1x7168 := by
  simp only [W1, hostOps0]
  after_results_simp
  rfl

/-- The positions as a column. -/
theorem W1_v14 (c : Dev nD) : W1 m ρ c (Proc.devRef .tc main_v14) = shapeCast S24576x1 (m ((c.tc : Thread nD τ).loc main_arg4)) shapeCasts_S8x3072_S24576x1 := by
  simp only [W1, hostOps0]
  after_results_simp
  rfl

/-- The table of the 64 frequencies. -/
def frequencies : FVec F S64 .f32 :=
  Host.powf (broadcastInDim S64 ![] bcast_S_S64 (constant S_ .f32 0x461C4000#32))
    (Host.divf (Host.negf (addf (broadcastInDim S64 ![] bcast_S_S64 (constant S_ .f32 0x00000000#32))
        (mulf (broadcastInDim S64 ![] bcast_S_S64 (constant S_ .f32 0x40000000#32)) (sitofp .f32 (iotaInDim S64 32 0)))))
      (broadcastInDim S64 ![] bcast_S_S64 (constant S_ .f32 0x43000000#32)))

/-- The table of frequencies twice, as a row. -/
theorem W1_v11 (c : Dev nD) : W1 m ρ c (Proc.devRef .tc main_v11) = shapeCast S1x128 (concatenate S128 0 [⟨S64, frequencies (F := F)⟩, ⟨S64, frequencies (F := F)⟩] concatenates_S64_S64_S128_d0) shapeCasts_S128_S1x128 := by
  simp only [W1, hostOps0]
  after_results_simp
  rfl

/-! ### Before the projections -/

/-- The first call's result 0, when the queries' projection begins. -/
theorem W3_v15_0 (c : Dev nD) : W3 m ρ c (Proc.devRef .tc main_v15_0) = (dat0 (V1 m ρ) c).arrAt 4 cfg0.N :=
  (W3_of m ρ c main_v15_0 (by decide)).trans (W2_arr m ρ c 4)
/-- The same one boundary later. -/
theorem W4_v15_0 (c : Dev nD) : W4 m ρ c (Proc.devRef .tc main_v15_0) = (dat0 (V1 m ρ) c).arrAt 4 cfg0.N :=
  (W4_of m ρ c main_v15_0 (by decide)).trans (W3_v15_0 m ρ c)
/-- The same one boundary later. -/
theorem W5_v15_0 (c : Dev nD) : W5 m ρ c (Proc.devRef .tc main_v15_0) = (dat0 (V1 m ρ) c).arrAt 4 cfg0.N :=
  (W5_of m ρ c main_v15_0 (by decide)).trans (W4_v15_0 m ρ c)
/-- The same one boundary later. -/
theorem W6_v15_0 (c : Dev nD) : W6 m ρ c (Proc.devRef .tc main_v15_0) = (dat0 (V1 m ρ) c).arrAt 4 cfg0.N :=
  (W6_of m ρ c main_v15_0 (by decide)).trans (W5_v15_0 m ρ c)
/-- The first call's result 1, when the queries' projection begins. -/
theorem W3_v15_1 (c : Dev nD) : W3 m ρ c (Proc.devRef .tc main_v15_1) = (dat0 (V1 m ρ) c).arrAt 5 cfg0.N :=
  (W3_of m ρ c main_v15_1 (by decide)).trans (W2_arr m ρ c 5)
/-- The same one boundary later. -/
theorem W4_v15_1 (c : Dev nD) : W4 m ρ c (Proc.devRef .tc main_v15_1) = (dat0 (V1 m ρ) c).arrAt 5 cfg0.N :=
  (W4_of m ρ c main_v15_1 (by decide)).trans (W3_v15_1 m ρ c)
/-- The same one boundary later. -/
theorem W5_v15_1 (c : Dev nD) : W5 m ρ c (Proc.devRef .tc main_v15_1) = (dat0 (V1 m ρ) c).arrAt 5 cfg0.N :=
  (W5_of m ρ c main_v15_1 (by decide)).trans (W4_v15_1 m ρ c)
/-- The same one boundary later. -/
theorem W6_v15_1 (c : Dev nD) : W6 m ρ c (Proc.devRef .tc main_v15_1) = (dat0 (V1 m ρ) c).arrAt 5 cfg0.N :=
  (W6_of m ρ c main_v15_1 (by decide)).trans (W5_v15_1 m ρ c)
/-- The first call's result 2, when the queries' projection begins. -/
theorem W3_v15_2 (c : Dev nD) : W3 m ρ c (Proc.devRef .tc main_v15_2) = (dat0 (V1 m ρ) c).arrAt 6 cfg0.N :=
  (W3_of m ρ c main_v15_2 (by decide)).trans (W2_arr m ρ c 6)
/-- The same one boundary later. -/
theorem W4_v15_2 (c : Dev nD) : W4 m ρ c (Proc.devRef .tc main_v15_2) = (dat0 (V1 m ρ) c).arrAt 6 cfg0.N :=
  (W4_of m ρ c main_v15_2 (by decide)).trans (W3_v15_2 m ρ c)
/-- The same one boundary later. -/
theorem W5_v15_2 (c : Dev nD) : W5 m ρ c (Proc.devRef .tc main_v15_2) = (dat0 (V1 m ρ) c).arrAt 6 cfg0.N :=
  (W5_of m ρ c main_v15_2 (by decide)).trans (W4_v15_2 m ρ c)
/-- The first call's result 3, when the queries' projection begins. -/
theorem W3_v15_3 (c : Dev nD) : W3 m ρ c (Proc.devRef .tc main_v15_3) = (dat0 (V1 m ρ) c).arrAt 7 cfg0.N :=
  (W3_of m ρ c main_v15_3 (by decide)).trans (W2_arr m ρ c 7)
/-- The same one boundary later. -/
theorem W4_v15_3 (c : Dev nD) : W4 m ρ c (Proc.devRef .tc main_v15_3) = (dat0 (V1 m ρ) c).arrAt 7 cfg0.N :=
  (W4_of m ρ c main_v15_3 (by decide)).trans (W3_v15_3 m ρ c)
/-- The same one boundary later. -/
theorem W5_v15_3 (c : Dev nD) : W5 m ρ c (Proc.devRef .tc main_v15_3) = (dat0 (V1 m ρ) c).arrAt 7 cfg0.N :=
  (W5_of m ρ c main_v15_3 (by decide)).trans (W4_v15_3 m ρ c)
/-- The first call's result 4, when the queries' projection begins. -/
theorem W3_v15_4 (c : Dev nD) : W3 m ρ c (Proc.devRef .tc main_v15_4) = (dat0 (V1 m ρ) c).arrAt 8 cfg0.N :=
  (W3_of m ρ c main_v15_4 (by decide)).trans (W2_arr m ρ c 8)
/-- The same one boundary later. -/
theorem W4_v15_4 (c : Dev nD) : W4 m ρ c (Proc.devRef .tc main_v15_4) = (dat0 (V1 m ρ) c).arrAt 8 cfg0.N :=
  (W4_of m ρ c main_v15_4 (by decide)).trans (W3_v15_4 m ρ c)
/-- The same one boundary later. -/
theorem W5_v15_4 (c : Dev nD) : W5 m ρ c (Proc.devRef .tc main_v15_4) = (dat0 (V1 m ρ) c).arrAt 8 cfg0.N :=
  (W5_of m ρ c main_v15_4 (by decide)).trans (W4_v15_4 m ρ c)

/-- The weights' codes: as launched. -/
theorem W3_arg2 (c : Dev nD) : W3 m ρ c (Proc.devRef .tc main_arg2) = m ((c.tc : Thread nD τ).loc main_arg2) :=
  W3_args m ρ c main_arg2 (by decide)
/-- The weights' codes: as launched. -/
theorem W4_arg2 (c : Dev nD) : W4 m ρ c (Proc.devRef .tc main_arg2) = m ((c.tc : Thread nD τ).loc main_arg2) :=
  W4_args m ρ c main_arg2 (by decide)
/-- The weights' codes: as launched. -/
theorem W5_arg2 (c : Dev nD) : W5 m ρ c (Proc.devRef .tc main_arg2) = m ((c.tc : Thread nD τ).loc main_arg2) :=
  W5_args m ρ c main_arg2 (by decide)
/-- The weights' scales as a row. -/
theorem W3_v16 (c : Dev nD) :
    W3 m ρ c (Proc.devRef .tc main_v16) = shapeCast S1x24576 (m ((c.tc : Thread nD τ).loc main_arg3)) shapeCasts_S24576_S1x24576 := by
  have h := W2_args m ρ c main_arg3 (by decide)
  simp only [W3, hostOps1]
  after_results_simp
  rw [← h]
  rfl
/-- The same one boundary later. -/
theorem W4_v16 (c : Dev nD) :
    W4 m ρ c (Proc.devRef .tc main_v16) = shapeCast S1x24576 (m ((c.tc : Thread nD τ).loc main_arg3)) shapeCasts_S24576_S1x24576 :=
  (W4_of m ρ c main_v16 (by decide)).trans (W3_v16 m ρ c)
/-- The same one boundary later. -/
theorem W5_v16 (c : Dev nD) :
    W5 m ρ c (Proc.devRef .tc main_v16) = shapeCast S1x24576 (m ((c.tc : Thread nD τ).loc main_arg3)) shapeCasts_S24576_S1x24576 :=
  (W5_of m ρ c main_v16 (by decide)).trans (W4_v16 m ρ c)

/-! ### After the projections -/

/-- The queries' projection leaves. -/
theorem W6_v17 (c : Dev nD) : W6 m ρ c (Proc.devRef .tc main_v17) = (dat1 (V3 m ρ) c).arrAt 6 cfg1.N :=
  (W6_of m ρ c main_v17 (by decide)).trans ((W5_of m ρ c main_v17 (by decide)).trans (W4_arr m ρ c 6))
/-- The keys' projection leaves. -/
theorem W6_v18 (c : Dev nD) : W6 m ρ c (Proc.devRef .tc main_v18) = (dat2 (V4 m ρ) c).arrAt 6 cfg2.N :=
  (W6_of m ρ c main_v18 (by decide)).trans (W5_arr m ρ c 6)
/-- The values' projection leaves. -/
theorem W6_v19 (c : Dev nD) : W6 m ρ c (Proc.devRef .tc main_v19) = (dat3 (V5 m ρ) c).arrAt 6 cfg3.N :=
  W6_arr m ρ c 6

/-- The result of the queries: what the call leaves, at the result's shape. -/
theorem W7_v20 (c : Dev nD) :
    W7 m ρ c (Proc.devRef .tc main_v20) = shapeCast S8x3072x64x128 ((dat1 (V3 m ρ) c).arrAt 6 cfg1.N) shapeCasts_S24576x64x128_S8x3072x64x128 := by
  have h := W6_v17 m ρ c
  simp only [W7, hostOps4]
  after_results_simp
  rw [← h]
  rfl
/-- The result of the keys: what the call leaves, at the result's shape. -/
theorem W7_v21 (c : Dev nD) :
    W7 m ρ c (Proc.devRef .tc main_v21) = shapeCast S8x3072x64x128 ((dat2 (V4 m ρ) c).arrAt 6 cfg2.N) shapeCasts_S24576x64x128_S8x3072x64x128 := by
  have h := W6_v18 m ρ c
  simp only [W7, hostOps4]
  after_results_simp
  rw [← h]
  rfl
/-- The result of the values: what the call leaves, at the result's shape. -/
theorem W7_v22 (c : Dev nD) :
    W7 m ρ c (Proc.devRef .tc main_v22) = shapeCast S8x3072x64x128 ((dat3 (V5 m ρ) c).arrAt 6 cfg3.N) shapeCasts_S24576x64x128_S8x3072x64x128 := by
  have h := W6_v19 m ρ c
  simp only [W7, hostOps4]
  after_results_simp
  rw [← h]
  rfl
/-- The result of the codes: what the call leaves, at the result's shape. -/
theorem W7_v23 (c : Dev nD) :
    W7 m ρ c (Proc.devRef .tc main_v23) = shapeCast S8x3072x7168 ((dat0 (V1 m ρ) c).arrAt 4 cfg0.N) shapeCasts_S24576x7168_S8x3072x7168 := by
  have h := W6_v15_0 m ρ c
  simp only [W7, hostOps4]
  after_results_simp
  rw [← h]
  rfl
/-- The result of the scale: what the call leaves, at the result's shape. -/
theorem W7_v24 (c : Dev nD) :
    W7 m ρ c (Proc.devRef .tc main_v24) = shapeCast S8x3072x1 ((dat0 (V1 m ρ) c).arrAt 5 cfg0.N) shapeCasts_S24576x1_S8x3072x1 := by
  have h := W6_v15_1 m ρ c
  simp only [W7, hostOps4]
  after_results_simp
  rw [← h]
  rfl

end Cert.Proof

end
-- ==== Proof.Scale.lean ====
/- The power-of-two scale of a token, over the extended reals.

   `scale z` is the quantiser's scale as the reference writes it, `inverse (scale z)` the factor its values are
   multiplied by. The kernel finds the same two numbers by counting: `count z` is the number of bit patterns
   `k <<< 23`, `k < 256`, whose value is at most `z`, and both factors are values of such patterns, `byCount` and
   `byCountInverse`. The two ways agree for every `z` that is not negative: `byCount_eq`, `byCountInverse_eq`. -/
module

public import Idealize.ShloMosaic.Lib.ValueIdx
public import Idealize.ShloMosaic.Lib.IdealHost
public import Idealize.ShloMosaic.Lib.IndicatorCount

@[expose] public section

noncomputable section

namespace Cert.Proof

open Idealize.ShloMosaic

/-- The power of two `2 ^ n` as an extended real. -/
def pow2 (n : ℤ) : EReal := (((2 : ℝ) ^ n : ℝ) : EReal)

/-- The scale of a token whose largest magnitude over 448 is `z`: the least of the powers from `2 ^ (-125)` to
    `2 ^ 127` that is above `z`, infinity if none is, and one where `z` is below `2 ^ (-126)` or is infinite. -/
def scale (z : EReal) : EReal :=
  if z < pow2 (-126) ∨ z = ⊤ then 1
  else (Finset.univ : Finset (Fin 253)).fold min ⊤ fun j => if z < pow2 ((j.val : ℤ) - 125) then pow2 ((j.val : ℤ) - 125) else ⊤

/-- What a token's values are multiplied by: one over the scale, or zero where that is below `2 ^ (-126)`. -/
def inverse (s : EReal) : EReal := if s < pow2 127 then Ideal.div 1 s else 0

/-- The value of the bit pattern whose exponent field is `k` and whose other bits are zero. -/
def field (k : ℕ) : EReal := Ideal.ofBits .f32 (BitVec.ofNat 32 k <<< 23)

/-- How many of the 256 exponent fields have a value of at most `z`. -/
def count (z : EReal) : ℕ := ((Finset.univ : Finset (Fin 256)).filter fun k => field k.val ≤ z).card

/-- The kernel's scale from the count. -/
def byCount (n : ℕ) : EReal := field (if n ≤ 1 ∨ 256 ≤ n then 127 else n)

/-- The kernel's factor for the values from the count. -/
def byCountInverse (n : ℕ) : EReal := field (if n ≤ 1 ∨ 256 ≤ n then 127 else 254 - n)

theorem pow2_lt_pow2 {a b : ℤ} : pow2 a < pow2 b ↔ a < b := by
  unfold pow2
  rw [EReal.coe_lt_coe_iff]
  exact zpow_lt_zpow_iff_right₀ (by norm_num)

theorem pow2_le_pow2 {a b : ℤ} : pow2 a ≤ pow2 b ↔ a ≤ b := by
  unfold pow2
  rw [EReal.coe_le_coe_iff]
  exact zpow_le_zpow_iff_right₀ (by norm_num)

theorem pow2_lt_top (a : ℤ) : pow2 a < ⊤ := EReal.coe_lt_top _

theorem pow2_zero : pow2 0 = 1 := by simp [pow2]

theorem div_one_pow2 (a : ℤ) : Ideal.div 1 (pow2 a) = pow2 (-a) := by
  have h : ((2 : ℝ) ^ a) ≠ 0 := by positivity
  unfold Ideal.div pow2
  rw [if_neg (by exact_mod_cast h), one_mul, ← EReal.coe_inv, zpow_neg]

theorem fieldBits : ∀ k : Fin 256,
    ((BitVec.ofNat 32 k.val <<< 23).extractLsb' 23 8).toNat = k.val ∧ ((BitVec.ofNat 32 k.val <<< 23).extractLsb' 0 23).toNat = 0
      ∧ (BitVec.ofNat 32 k.val <<< 23).extractLsb' 31 1 = 0#1 := by decide +kernel

theorem field_zero : field 0 = 0 := by
  have h := fieldBits ⟨0, by decide⟩
  simp only at h
  unfold field
  simp only [Ideal.ofBits, Ideal.ieee]
  simp [h.1, h.2.1, h.2.2]

theorem field_top : field 255 = ⊤ := by
  have h := fieldBits ⟨255, by decide⟩
  simp only at h
  unfold field
  simp only [Ideal.ofBits, Ideal.ieee]
  simp [h.1, h.2.1, h.2.2]

theorem field_mid (k : ℕ) (h1 : 1 ≤ k) (h2 : k ≤ 254) : field k = pow2 ((k : ℤ) - 127) := by
  have h := fieldBits ⟨k, by omega⟩
  simp only at h
  unfold field pow2
  show Ideal.ieee 8 23 _ = _
  unfold Ideal.ieee
  simp only [h.1, h.2.1, h.2.2]
  rw [if_neg (by omega), if_neg (by omega)]
  congr 1
  rw [show ((k : ℤ) - (2 ^ (8 - 1) - 1) - (23 : ℕ)) = ((k : ℤ) - 127) + (-23) by norm_num; ring, zpow_add₀ (by norm_num : (2 : ℝ) ≠ 0)]
  norm_num
  ring

theorem field_lt {a b : ℕ} (hb : b ≤ 255) (h : a < b) : field a < field b := by
  rcases Nat.eq_zero_or_pos a with rfl | ha
  · rw [field_zero]
    rcases Nat.lt_or_ge b 255 with hb' | hb'
    · rw [field_mid b h (by omega)]
      unfold pow2
      exact_mod_cast (by positivity : (0 : ℝ) < (2 : ℝ) ^ ((b : ℤ) - 127))
    · rw [show b = 255 by omega, field_top]; exact EReal.zero_lt_top
  · rw [field_mid a ha (by omega)]
    rcases Nat.lt_or_ge b 255 with hb' | hb'
    · rw [field_mid b (by omega) (by omega), pow2_lt_pow2]; omega
    · rw [show b = 255 by omega, field_top]; exact pow2_lt_top _

theorem field_le {a b : ℕ} (hb : b ≤ 255) (h : a ≤ b) : field a ≤ field b := by
  rcases Nat.lt_or_ge a b with h' | h'
  · exact (field_lt hb h').le
  · rw [show a = b by omega]

/-- If `n` is where the values pass `z`, then `n` is the count. -/
theorem count_eq {z : EReal} {n : ℕ} (hn : n ≤ 256) (hlo : ∀ k, k < n → field k ≤ z) (hhi : ∀ k, n ≤ k → k ≤ 255 → z < field k) :
    count z = n := by
  unfold count
  have : ((Finset.univ : Finset (Fin 256)).filter fun k => field k.val ≤ z) = (Finset.univ : Finset (Fin 256)).filter fun k => k.val < n := by
    refine Finset.filter_congr fun k _ => ⟨fun h => ?_, fun h => hlo _ h⟩
    by_contra h'
    exact absurd h (not_le.2 (hhi k.val (by omega) (by omega)))
  rw [this]
  rw [Fin.card_filter_val_lt]
  omega

theorem fold_min_eq (g : Fin 253 → EReal) (i : Fin 253) (h : ∀ j, g i ≤ g j) :
    (Finset.univ : Finset (Fin 253)).fold min ⊤ g = g i := by
  apply le_antisymm
  · exact (Finset.fold_min_le _).2 (Or.inr ⟨i, Finset.mem_univ _, le_rfl⟩)
  · exact (Finset.le_fold_min _).2 ⟨le_top, fun j _ => h j⟩

/-- The three cases of a `z` that is not negative: below the least normal number, infinite, or from `2 ^ (n - 128)` up to but
    not `2 ^ (n - 127)` with `n` the count. -/
theorem count_cases {z : EReal} (hz : 0 ≤ z) :
    (z < pow2 (-126) ∧ count z = 1) ∨ (z = ⊤ ∧ count z = 256)
      ∨ (∃ n : ℕ, 2 ≤ n ∧ n ≤ 255 ∧ count z = n ∧ field (n - 1) ≤ z ∧ z < field n) := by
  rcases lt_or_ge z (pow2 (-126)) with h | h
  · refine Or.inl ⟨h, count_eq (by omega) (fun k hk => ?_) fun k hk hk' => ?_⟩
    · rw [show k = 0 by omega, field_zero]; exact hz
    · refine lt_of_lt_of_le h ?_
      have := field_le (a := 1) (b := k) hk' hk
      rw [field_mid 1 (by omega) (by omega)] at this
      exact this
  rcases eq_or_ne z ⊤ with ht | ht
  · exact Or.inr (Or.inl ⟨ht, count_eq le_rfl (fun k _ => by rw [ht]; exact le_top) fun k hk hk' => by omega⟩)
  refine Or.inr (Or.inr ?_)
  have hex : ∃ n : ℕ, z < field n ∧ n ≤ 255 := ⟨255, by rw [field_top]; exact lt_of_le_of_ne le_top ht, le_rfl⟩
  classical
  let n := Nat.find hex
  have hn : z < field n ∧ n ≤ 255 := Nat.find_spec hex
  have hmin : ∀ m, m < n → field m ≤ z := fun m hm => by
    by_contra h'
    exact Nat.find_min hex hm ⟨not_le.1 h', by omega⟩
  have h2 : 2 ≤ n := by
    by_contra h'
    have : field n ≤ pow2 (-126) := by
      have := field_le (a := n) (b := 1) (by omega) (by omega)
      rw [field_mid 1 (by omega) (by omega)] at this
      exact this
    exact absurd (lt_of_lt_of_le hn.1 this) (not_lt.2 h)
  exact ⟨n, h2, hn.2, count_eq (by omega) hmin fun k hk hk' => lt_of_lt_of_le hn.1 (field_le hk' hk), hmin _ (by omega), hn.1⟩

/-- Where `z` lies in a binade, the scale is the value of the next exponent field. -/
theorem scale_eq_field {z : EReal} {n : ℕ} (h2 : 2 ≤ n) (hn : n ≤ 255) (hlo : field (n - 1) ≤ z) (hhi : z < field n) :
    scale z = field n := by
  rw [field_mid (n - 1) (by omega) (by omega)] at hlo
  unfold scale
  rw [if_neg]
  swap
  · rintro (h | h)
    · have := lt_of_le_of_lt hlo h
      rw [pow2_lt_pow2] at this
      omega
    · rw [h] at hhi; exact absurd hhi not_top_lt
  rcases Nat.lt_or_ge n 255 with hl | hl
  · rw [field_mid n (by omega) (by omega)] at hhi ⊢
    have hi : n - 2 < 253 := by omega
    have e : ((n - 2 : ℕ) : ℤ) - 125 = (n : ℤ) - 127 := by omega
    rw [fold_min_eq _ ⟨n - 2, hi⟩]
    · simp only [e]; rw [if_pos hhi]
    · intro j
      simp only [e]
      rw [if_pos hhi]
      split_ifs with hj
      · rw [pow2_le_pow2]
        have := lt_of_le_of_lt hlo hj
        rw [pow2_lt_pow2] at this
        omega
      · exact le_top
  · have : n = 255 := by omega
    subst this
    rw [field_top]
    rw [fold_min_eq _ ⟨0, by omega⟩]
    all_goals
      have hno : ∀ j : Fin 253, ¬ z < pow2 ((j.val : ℤ) - 125) := fun j hj => by
        have := lt_of_le_of_lt hlo hj
        rw [pow2_lt_pow2] at this
        omega
    · rw [if_neg (hno _)]
    · intro j; rw [if_neg (hno _), if_neg (hno _)]

theorem scale_one {z : EReal} (h : z < pow2 (-126) ∨ z = ⊤) : scale z = 1 := if_pos h

theorem field_127 : field 127 = 1 := by rw [field_mid 127 (by omega) (by omega)]; exact pow2_zero

theorem inverse_one : inverse 1 = 1 := by
  unfold inverse
  have h := div_one_pow2 0
  rw [neg_zero, pow2_zero] at h
  rw [if_pos, h]
  rw [← pow2_zero]
  exact pow2_lt_pow2.2 (by omega)

/-- The kernel's scale is the reference's. -/
theorem byCount_eq {z : EReal} (hz : 0 ≤ z) : byCount (count z) = scale z := by
  rcases count_cases hz with ⟨h, hc⟩ | ⟨h, hc⟩ | ⟨n, h2, hn, hc, hlo, hhi⟩
  · rw [hc, scale_one (Or.inl h)]; exact field_127
  · rw [hc, scale_one (Or.inr h)]; exact field_127
  · rw [hc, scale_eq_field h2 hn hlo hhi]
    unfold byCount
    rw [if_neg (by omega)]

/-- The kernel's factor for the values is the reference's. -/
theorem byCountInverse_eq {z : EReal} (hz : 0 ≤ z) : byCountInverse (count z) = inverse (scale z) := by
  rcases count_cases hz with ⟨h, hc⟩ | ⟨h, hc⟩ | ⟨n, h2, hn, hc, hlo, hhi⟩
  · rw [hc, scale_one (Or.inl h), inverse_one]; exact field_127
  · rw [hc, scale_one (Or.inr h), inverse_one]; exact field_127
  · rw [hc, scale_eq_field h2 hn hlo hhi]
    unfold byCountInverse inverse
    rw [if_neg (by omega)]
    rcases Nat.lt_or_ge n 254 with hl | hl
    · rw [field_mid n (by omega) (by omega), if_pos (pow2_lt_pow2.2 (by omega)), div_one_pow2,
        field_mid (254 - n) (by omega) (by omega)]
      congr 1
      omega
    · rw [show 254 - n = 0 by omega, field_zero, if_neg]
      rcases Nat.lt_or_ge n 255 with hl' | hl'
      · rw [field_mid n (by omega) (by omega), pow2_lt_pow2]; omega
      · rw [show n = 255 by omega, field_top]; exact not_top_lt

/-- Adding up the 256 comparisons as 32-bit words gives the count. -/
theorem fold_eq_count (z : EReal) :
    (Finset.univ : Finset (Fin 256)).fold IntOp.addi 0#32
        (fun k => (Ideal.cmp .ole (field k.val) z).setWidth 32) = BitVec.ofNat 32 (count z) := by
  rw [IndicatorCount.fold_addi_setWidth_eq_card]
  unfold count
  congr 2
  refine Finset.filter_congr fun k _ => ?_
  unfold Ideal.cmp
  by_cases h : field k.val ≤ z <;> simp [h]

theorem count_le (z : EReal) : count z ≤ 256 := by
  unfold count
  exact (Finset.card_filter_le _ _).trans (by simp)

/-- The exponent the kernel computes from the counted word `c`: zero at either end, else the count against 127. -/
def exponentWord (c : BitVec 32) : BitVec 32 :=
  Scalar.select (IntOp.ori (IntOp.cmpi .sle (IntOp.subi c 1#32) 0#32) (IntOp.cmpi .sge (IntOp.subi c 1#32) 255#32)) 0#32
    (IntOp.subi (IntOp.subi c 1#32) 126#32)

/-- The exponent field the kernel writes for the exponent `e`. -/
def fieldWord (e : BitVec 32) : BitVec 32 :=
  IntOp.shli .vector (IntOp.minsi 255#32 (IntOp.maxsi 0#32 (IntOp.addi e 127#32))) 23#32

theorem fieldWord_count : ∀ n : Fin 257,
    fieldWord (exponentWord (BitVec.ofNat 32 n.val)) = BitVec.ofNat 32 (if n.val ≤ 1 ∨ 256 ≤ n.val then 127 else n.val) <<< 23
    ∧ fieldWord (IntOp.subi 0#32 (exponentWord (BitVec.ofNat 32 n.val)))
      = BitVec.ofNat 32 (if n.val ≤ 1 ∨ 256 ≤ n.val then 127 else 254 - n.val) <<< 23 := by decide +kernel

theorem fieldWord_zero : fieldWord 0#32 = BitVec.ofNat 32 127 <<< 23 ∧ fieldWord (IntOp.subi 0#32 0#32) = BitVec.ofNat 32 127 <<< 23 := by
  decide +kernel

/-- The pattern the kernel writes for the scale has the reference's scale as its value. -/
theorem fieldWord_scale {z : EReal} (hz : 0 ≤ z) :
    Ideal.ofBits .f32 (fieldWord (exponentWord (BitVec.ofNat 32 (count z)))) = scale z := by
  rw [(fieldWord_count ⟨count z, by have := count_le z; omega⟩).1]
  exact byCount_eq hz

/-- The pattern the kernel writes for the values' factor has the reference's factor as its value. -/
theorem fieldWord_inverse {z : EReal} (hz : 0 ≤ z) :
    Ideal.ofBits .f32 (fieldWord (IntOp.subi 0#32 (exponentWord (BitVec.ofNat 32 (count z))))) = inverse (scale z) := by
  rw [(fieldWord_count ⟨count z, by have := count_le z; omega⟩).2]
  exact byCountInverse_eq hz

theorem ofBits_least : Ideal.ofBits .f32 0x00800000#32 = pow2 (-126) := by
  have := field_mid 1 (by omega) (by omega)
  exact this

theorem ofBits_largest : Ideal.ofBits .f32 0x7F000000#32 = pow2 127 := by
  have := field_mid 254 (by omega) (by omega)
  exact this

theorem ofBits_infinity : Ideal.ofBits .f32 0x7F800000#32 = ⊤ := field_top

theorem ofBits_125 : Ideal.ofBits .f32 0x42FA0000#32 = ((125 : ℝ) : EReal) := by
  simp [Ideal.ofBits, Ideal.ieee, -EReal.coe_mul]; norm_num

/-- The constant nearest 1/448 is not negative. -/
theorem ofBits_share_nonneg : 0 ≤ Ideal.ofBits .f32 0x3B124925#32 := by
  simp [Ideal.ofBits, Ideal.ieee, -EReal.coe_mul]

theorem ofBits_minus_infinity : Ideal.ofBits .f32 0xFF800000#32 = ⊥ := by
  simp [Ideal.ofBits, Ideal.ieee]

/-- Two to the power of an index less 125, as the reference computes it. -/
theorem exp2_index (j : ℕ) (hj : j < 253) :
    Ideal.exp2 ((((BitVec.ofNat 32 j).toInt : ℝ) : EReal) - ((125 : ℝ) : EReal)) = pow2 ((j : ℤ) - 125) := by
  have h : (BitVec.ofNat 32 j).toInt = (j : ℤ) := by
    rw [BitVec.toInt_ofNat']
    exact Int.bmod_eq_of_le (by omega) (by omega)
  rw [h, ← EReal.coe_sub]
  show ((Real.rpow 2 _ : ℝ) : EReal) = _
  unfold pow2
  congr 1
  rw [← Real.rpow_intCast]
  push_cast
  rfl

/-- A largest magnitude is not negative, nor is what it is scaled to. -/
theorem z_nonneg {n : ℕ} (hn : 0 < n) (g : Fin n → EReal) {c : EReal} (hc : 0 ≤ c) :
    0 ≤ (Finset.univ : Finset (Fin n)).fold max ⊥ (fun k => max (g k) (-g k)) * c := by
  refine mul_nonneg ?_ hc
  refine (Finset.le_fold_max _).2 (Or.inr ⟨⟨0, hn⟩, Finset.mem_univ _, ?_⟩)
  rcases le_total 0 (g ⟨0, hn⟩) with h | h
  · exact h.trans (le_max_left _ _)
  · exact (EReal.neg_nonneg.2 h).trans (le_max_right _ _)

end Cert.Proof

end
-- ==== Proof.Spec.lean ====
/- What both programs compute, as functions of the arguments read at indices, over the extended reals.

   A token is one of the 24576 rows; it has 7168 values. `norm` is its RMS norm, `share` its largest magnitude over
   448, `codes` its values over the scale (Scale.lean), `product` the products of its codes with the rows of the
   weights, `rescaled` those products with the token's and the row's scale, and `rotated` a head of 128 of them after
   the rotation by the token's position. -/
module

public import proofs.«01_k».proof.Proof.Scale

@[expose] public section

noncomputable section

namespace Cert.Proof

open Idealize.ShloMosaic
open scoped BigOperators

/-- The RMS norm of a row of values, times the gain. -/
def norm (x gain : Fin 7168 → EReal) (j : Fin 7168) : EReal :=
  x j * Ideal.rsqrt (Ideal.div (∑ k, x k * x k) (Ideal.ofBits .f32 0x45E00000#32) + Ideal.ofBits .f32 0x358637BD#32) * gain j

/-- The largest magnitude of a row of values, times the constant nearest 1/448. -/
def share (h : Fin 7168 → EReal) : EReal :=
  (Finset.univ : Finset (Fin 7168)).fold max ⊥ (fun k => max (h k) (-h k)) * Ideal.ofBits .f32 0x3B124925#32

theorem share_nonneg (h : Fin 7168 → EReal) : 0 ≤ share h := z_nonneg (by decide) h ofBits_share_nonneg

/-- The codes of a row of values: each times the inverse of the scale, cut at plus and minus 448. -/
def codes (h : Fin 7168 → EReal) (j : Fin 7168) : EReal :=
  min (Ideal.ofBits .f32 0x43E00000#32) (max (Ideal.ofBits .f32 0xC3E00000#32) (h j * inverse (scale (share h))))

/-- The product of a row of codes with a row of weights. -/
def product (q w : Fin 7168 → EReal) : EReal := ∑ k, q k * w k

/-- The frequency of each of the 64 pairs of a head: 10000 to the power of minus twice its number over 128. -/
def frequency (i : Fin 64) : EReal :=
  Ideal.pow (Ideal.ofBits .f32 0x461C4000#32)
    (Ideal.div (-(Ideal.ofBits .f32 0x00000000#32 + Ideal.ofBits .f32 0x40000000#32 * (((BitVec.ofNat 32 i.val).toInt : ℝ) : EReal)))
      (Ideal.ofBits .f32 0x43000000#32))

/-- The angle at a position. -/
def angle (p : BitVec 32) (f : EReal) : EReal := ((p.toInt : ℝ) : EReal) * f

/-- A head of 128 values rotated: its two halves are the two coordinates of 64 points. -/
def rotated (y : Fin 128 → EReal) (p : BitVec 32) (l : Fin 128) : EReal :=
  if h : l.val < 64 then
    y l * Ideal.cos (angle p (frequency ⟨l.val, h⟩)) - y ⟨l.val + 64, by omega⟩ * Ideal.sin (angle p (frequency ⟨l.val, h⟩))
  else
    y l * Ideal.cos (angle p (frequency ⟨l.val - 64, by omega⟩))
      + y ⟨l.val - 64, by omega⟩ * Ideal.sin (angle p (frequency ⟨l.val - 64, by omega⟩))

/-- The arguments, read at indices: the tokens' values, the gain, the weights' codes and scales, the positions. -/
structure Arguments where
  x : Fin 24576 → Fin 7168 → EReal
  gain : Fin 7168 → EReal
  w : Fin 24576 → Fin 7168 → EReal
  wscale : Fin 24576 → EReal
  position : Fin 24576 → BitVec 32

namespace Arguments

variable (A : Arguments)

/-- A token's normalised values. -/
def h (r : Fin 24576) : Fin 7168 → EReal := norm (A.x r) A.gain

/-- A token's scale. -/
def tokenScale (r : Fin 24576) : EReal := scale (share (A.h r))

/-- A token's codes. -/
def tokenCodes (r : Fin 24576) : Fin 7168 → EReal := codes (A.h r)

/-- A token's product with a row of the weights, with both scales. -/
def rescaled (r n : Fin 24576) : EReal := product (A.tokenCodes r) (A.w n) * A.tokenScale r * A.wscale n

/-- Lane `l` of head `g` of a token before the rotation; the heads of the queries, keys and values follow each other. -/
def head (r : Fin 24576) (g : Fin 192) (l : Fin 128) : EReal := A.rescaled r ⟨g.val * 128 + l.val, by omega⟩

/-- Lane `l` of head `g` of a token after the rotation. -/
def rotatedHead (r : Fin 24576) (g : Fin 192) (l : Fin 128) : EReal := rotated (A.head r g) (A.position r) l

end Arguments

end Cert.Proof

end
-- ==== Proof.Quant.lean ====
/- What the kernel's first call computes of a block of 256 tokens, index by index: the normalised values, their largest
   magnitude, the exponent, and from them the codes, the scale, and the cosines and sines of the tokens' angles. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

noncomputable section

namespace Cert.Proof

open Cert.KernelIdeal Cert.KernelIdeal.Gen Idealize.ShloMosaic Idealize.ShloMosaic.TcCoe Idealize.SL.Sem
open Idealize.ShloMosaic.Pipeline (Dat)
open scoped BigOperators

/-- A row of a block of tokens' values. -/
abbrev blockRow (x : Vec Ideal S256x7168 .bf16) (r : Fin 256) : Fin 7168 → EReal := fun k => x (ix2 r k)
/-- The gain as a row. -/
abbrev gainRow (g : Vec Ideal S1x7168 .f32) : Fin 7168 → EReal := fun k => g (ix2 0 k)

/-- A select on a lane's being one of the first 64. -/
theorem select_lane {α : Type} (l : Fin 128) (a b : α) :
    Scalar.select (IntOp.cmpi .slt (BitVec.ofNat 32 l.val) 64#32) a b = if l.val < 64 then a else b := by
  have h : ∀ l : Fin 128, IntOp.cmpi .slt (BitVec.ofNat 32 l.val) 64#32 = if l.val < 64 then 1#1 else 0#1 := by decide
  rw [h l]
  by_cases hl : l.val < 64 <;> simp [hl, Scalar.select]

/-- The normalised values. -/
theorem pay4_apply (x : Vec Ideal S256x7168 .bf16) (g : Vec Ideal S1x7168 .f32) (r : Fin 256) (j : Fin 7168) :
    k0_pay4 (F := Ideal) x g (ix2 r j) = norm (blockRow x r) (gainRow g) j := by
  pointwise [k0_pay4]
  rfl

/-- The largest magnitude of the normalised values. -/
theorem pay5_apply (x : Vec Ideal S256x7168 .bf16) (g : Vec Ideal S1x7168 .f32) (r : Fin 256) :
    k0_pay5 (F := Ideal) x g (ix2 r 0)
      = (Finset.univ : Finset (Fin 7168)).fold max ⊥
          (fun k => max (norm (blockRow x r) (gainRow g) k) (-norm (blockRow x r) (gainRow g) k)) := by
  pointwise [k0_pay5, pay4_apply]
  rw [ofBits_minus_infinity]
  rfl

/-- How many of the 256 exponent fields have a value of at most a row's, as the first call counts them. -/
def counted (a : FVec Ideal S256x1 .f32) : IVec S256x1 32 :=
  shapeCast S256x1 (multiReductionI .add [1] S256
    (extui 32 (cmpf .ole
      (bitcastToFloat .f32 (shli (iota .tc S256x256 32 [1] iota_S256x256_d1_w32) (broadcast S256x256 23#32)) : FVec Ideal S256x256 .f32)
      (broadcastTo S256x256 a broadcasts_S256x1_S256x256)) natLt_1_32) 0#32 reduces_S256x256_S256 rfl) shapeCasts_S256_S256x1

theorem counted_apply (a : FVec Ideal S256x1 .f32) (r : Fin 256) :
    counted a (ix2 r 0) = BitVec.ofNat 32 (count (a (ix2 r 0))) := by
  rw [← fold_eq_count]
  unfold counted
  generalize hc : (extui 32 (cmpf .ole
      (bitcastToFloat .f32 (shli (iota .tc S256x256 32 [1] iota_S256x256_d1_w32) (broadcast S256x256 23#32)) : FVec Ideal S256x256 .f32)
      (broadcastTo S256x256 a broadcasts_S256x1_S256x256)) natLt_1_32) = c
  have hk : ∀ k : Fin 256, c (ix2 r k) = (Ideal.cmp .ole (field k.val) (a (ix2 r 0))).setWidth 32 := by
    intro k
    rw [← hc]
    pointwise
    rfl
  simp only [← hk]
  clear hk hc
  pointwise

/-- The exponent from the counts. -/
def exponents (a : IVec S256x1 32) : IVec S256x1 32 :=
  select (ori (cmpi .sle (subi a (broadcast S256x1 1#32)) (broadcast S256x1 0#32))
    (cmpi .sge (subi a (broadcast S256x1 1#32)) (broadcast S256x1 255#32))) (broadcast S256x1 0#32)
    (subi (subi a (broadcast S256x1 1#32)) (broadcast S256x1 126#32))

theorem exponents_apply (a : IVec S256x1 32) (r : Fin 256) : exponents a (ix2 r 0) = exponentWord (a (ix2 r 0)) := by
  pointwise [exponents]
  rfl

/-- A value times the constant nearest 1/448, read at an index. -/
theorem times_constant_apply (a : FVec Ideal S256x1 .f32) (r : Fin 256) :
    (mulf a (broadcast S256x1 (Scalar.ofBits .f32 0x3B124925#32)) : FVec Ideal S256x1 .f32) (ix2 r 0)
      = a (ix2 r 0) * Ideal.ofBits .f32 0x3B124925#32 := rfl

/-- The share the first call computes. -/
theorem share_apply (x : Vec Ideal S256x7168 .bf16) (g : Vec Ideal S1x7168 .f32) (r : Fin 256) :
    (mulf (k0_pay5 (F := Ideal) x g) (broadcast S256x1 (Scalar.ofBits .f32 0x3B124925#32)) : FVec Ideal S256x1 .f32) (ix2 r 0)
      = share (norm (blockRow x r) (gainRow g)) := by
  rw [times_constant_apply, pay5_apply, share]

theorem pay6_eq (x : Vec Ideal S256x7168 .bf16) (g : Vec Ideal S1x7168 .f32) :
    k0_pay6 (F := Ideal) x g = exponents (counted (mulf (k0_pay5 x g) (broadcast S256x1 (Scalar.ofBits .f32 0x3B124925#32)))) := rfl

/-- The exponent of a value, as the word counted for it. -/
theorem exponents_counted (a : FVec Ideal S256x1 .f32) (r : Fin 256) (z : EReal) (hz : a (ix2 r 0) = z) :
    exponents (counted a) (ix2 r 0) = exponentWord (BitVec.ofNat 32 (count z)) := by
  rw [exponents_apply, counted_apply, hz]

/-- The exponent of the share of the largest magnitude, as the word counted for it. -/
theorem pay6_apply (x : Vec Ideal S256x7168 .bf16) (g : Vec Ideal S1x7168 .f32) (r : Fin 256) :
    k0_pay6 (F := Ideal) x g (ix2 r 0)
      = exponentWord (BitVec.ofNat 32 (count (share (norm (blockRow x r) (gainRow g))))) := by
  rw [pay6_eq]
  exact exponents_counted _ r _ (share_apply x g r)

/-- The scale of a block's tokens, from their largest magnitudes and exponents. -/
theorem pay8_apply (a : FVec Ideal S256x1 .f32) (e : IVec S256x1 32) (r : Fin 256) :
    k0_pay8 (F := Ideal) a e (Scalar.ofBits .f32 0x00000000#32) (ix2 r 0)
      = Ideal.ofBits .f32 (fieldWord (if a (ix2 r 0) = 0 then 0#32 else e (ix2 r 0))) := by
  pointwise [k0_pay8, k0_pay7]
  rfl

/-- The codes of a block's tokens, from their normalised values, largest magnitudes and exponents. -/
theorem pay9_apply (h : FVec Ideal S256x7168 .f32) (a : FVec Ideal S256x1 .f32) (e : IVec S256x1 32) (r : Fin 256) (j : Fin 7168) :
    k0_pay9 (F := Ideal) h a e (Scalar.ofBits .f32 0x00000000#32) (ix2 r j)
      = min (Ideal.ofBits .f32 0x43E00000#32) (max (Ideal.ofBits .f32 0xC3E00000#32) (h (ix2 r j) *
         Ideal.ofBits .f32 (fieldWord (IntOp.subi 0#32 (if a (ix2 r 0) = 0 then 0#32 else e (ix2 r 0)))))) := by
  pointwise [k0_pay9, k0_pay7]
  rfl

/-- The scale repeated over 128 lanes. -/
theorem pay10_apply (a : FVec Ideal S256x1 .f32) (e : IVec S256x1 32) (z : Ideal .f32) (r : Fin 256) (l : Fin 128) :
    k0_pay10 (F := Ideal) a e z (ix2 r l) = k0_pay8 (F := Ideal) a e z (ix2 r 0) := by
  pointwise [k0_pay10]

/-- The cosines of a block's angles. -/
theorem pay2_apply (p : Vec Ideal S256x1 .i32) (f : Vec Ideal S1x128 .f32) (r : Fin 256) (l : Fin 128) :
    k0_pay2 (F := Ideal) p f (ix2 r l) = Ideal.cos (angle (p (ix2 r 0)) (f (ix2 0 l))) := by
  pointwise [k0_pay2, k0_pay1]
  rfl

/-- The sines of a block's angles, negated in the first 64 lanes. -/
theorem pay3_apply (p : Vec Ideal S256x1 .i32) (f : Vec Ideal S1x128 .f32) (r : Fin 256) (l : Fin 128) :
    k0_pay3 (F := Ideal) p f (ix2 r l)
      = if l.val < 64 then -Ideal.sin (angle (p (ix2 r 0)) (f (ix2 0 l))) else Ideal.sin (angle (p (ix2 r 0)) (f (ix2 0 l))) := by
  pointwise [k0_pay3, k0_pay1]
  have hs : (FloatOps.sitofp (F := Ideal) .f32 (p (ix2 r 0)) : EReal) * f (ix2 0 l) = angle (p (ix2 r 0)) (f (ix2 0 l)) := rfl
  rw [hs, select_lane l, zero_sub]

/-! ### The block's results -/

/-- A largest magnitude of zero gives the share zero, and so the scale one. -/
theorem scale_of_zero {h : Fin 7168 → EReal}
    (hz : (Finset.univ : Finset (Fin 7168)).fold max ⊥ (fun k => max (h k) (-h k)) = 0) : scale (share h) = 1 := by
  apply scale_one
  unfold share
  rw [hz, zero_mul]
  exact Or.inl (EReal.coe_lt_coe_iff.2 (by positivity))

theorem field_127' : Ideal.ofBits .f32 (BitVec.ofNat 32 127 <<< 23) = 1 := field_127

section Block

variable (x : Vec Ideal S256x7168 .bf16) (g : Vec Ideal S1x7168 .f32) (p : Vec Ideal S256x1 .i32) (f : Vec Ideal S1x128 .f32)

/-- The block of codes. -/
def codesBlock (i : S256x7168.Idx) : EReal := codes (norm (blockRow x (i 0)) (gainRow g)) (i 1)
/-- The block of scales. -/
def scaleBlock (i : S256x1.Idx) : EReal := scale (share (norm (blockRow x (i 0)) (gainRow g)))
/-- The block of scales, each repeated over 128 lanes. -/
def scaleLanes (i : S256x128.Idx) : EReal := scale (share (norm (blockRow x (i 0)) (gainRow g)))
/-- The block of cosines. -/
def cosineBlock (i : S256x128.Idx) : EReal := Ideal.cos (angle (p (ix2 (i 0) 0)) (f (ix2 0 (i 1))))
/-- The block of sines, negated in the first 64 lanes. -/
def sineBlock (i : S256x128.Idx) : EReal :=
  if (i 1).val < 64 then -Ideal.sin (angle (p (ix2 (i 0) 0)) (f (ix2 0 (i 1)))) else Ideal.sin (angle (p (ix2 (i 0) 0)) (f (ix2 0 (i 1))))

theorem scale_apply (r : Fin 256) :
    k0_pay8 (F := Ideal) (k0_pay5 x g) (k0_pay6 x g) (Scalar.ofBits .f32 0x00000000#32) (ix2 r 0)
      = scale (share (norm (blockRow x r) (gainRow g))) := by
  rw [pay8_apply, pay5_apply, pay6_apply]
  split
  · rename_i hz
    rw [fieldWord_zero.1, field_127', scale_of_zero hz]
  · exact fieldWord_scale (share_nonneg _)

theorem codes_apply (r : Fin 256) (j : Fin 7168) :
    k0_pay9 (F := Ideal) (k0_pay4 x g) (k0_pay5 x g) (k0_pay6 x g) (Scalar.ofBits .f32 0x00000000#32) (ix2 r j)
      = codes (norm (blockRow x r) (gainRow g)) j := by
  rw [pay9_apply, pay4_apply, pay5_apply, pay6_apply]
  unfold codes
  split
  · rename_i hz
    rw [fieldWord_zero.2, field_127', scale_of_zero hz, inverse_one]
  · rw [fieldWord_inverse (share_nonneg _)]

theorem zero_starts : (![0, 0] : Fin 2 → ℕ) = fun _ => 0 := funext fun a => by fin_cases a <;> rfl

theorem out0_4_eq : out0_4 (F := Ideal) x g p f = codesBlock x g := by
  unfold out0_4 k0_pay11 k0_pay12
  rw [View.canon_unit_zero zero_starts, View.ld_unit_zero zero_starts, View.ld_unit_zero zero_starts]
  funext i
  obtain ⟨r, j, rfl⟩ : ∃ (r : Fin 256) (j : Fin 7168), i = ix2 r j := ⟨i 0, i 1, eq_ix2 i⟩
  exact codes_apply x g r j

theorem out0_5_eq : out0_5 (F := Ideal) x g p f = scaleBlock x g := by
  unfold out0_5 k0_pay11 k0_pay12
  rw [View.canon_unit_zero zero_starts, View.ld_unit_zero zero_starts, View.ld_unit_zero zero_starts]
  funext i
  obtain ⟨r, j, rfl⟩ : ∃ (r : Fin 256) (j : Fin 1), i = ix2 r j := ⟨i 0, i 1, eq_ix2 i⟩
  obtain rfl : j = 0 := Subsingleton.elim _ _
  exact scale_apply x g r

theorem out0_6_eq : out0_6 (F := Ideal) x g p f = scaleLanes x g := by
  unfold out0_6 k0_pay11 k0_pay12
  rw [View.canon_unit_zero zero_starts, View.ld_unit_zero zero_starts, View.ld_unit_zero zero_starts]
  funext i
  obtain ⟨r, j, rfl⟩ : ∃ (r : Fin 256) (j : Fin 128), i = ix2 r j := ⟨i 0, i 1, eq_ix2 i⟩
  exact (pay10_apply _ _ _ r j).trans (scale_apply x g r)

theorem out0_7_eq : out0_7 (F := Ideal) x g p f = cosineBlock p f := by
  unfold out0_7
  rw [View.canon_unit_zero zero_starts, View.ld_unit_zero zero_starts, View.ld_unit_zero zero_starts]
  funext i
  obtain ⟨r, j, rfl⟩ : ∃ (r : Fin 256) (j : Fin 128), i = ix2 r j := ⟨i 0, i 1, eq_ix2 i⟩
  exact pay2_apply p f r j

theorem out0_8_eq : out0_8 (F := Ideal) x g p f = sineBlock p f := by
  unfold out0_8
  rw [View.canon_unit_zero zero_starts, View.ld_unit_zero zero_starts, View.ld_unit_zero zero_starts]
  funext i
  obtain ⟨r, j, rfl⟩ : ∃ (r : Fin 256) (j : Fin 128), i = ix2 r j := ⟨i 0, i 1, eq_ix2 i⟩
  exact pay3_apply p f r j

end Block

/-! ### From the blocks to the arrays -/

section Array

variable (x : Vec Ideal S24576x7168 .bf16) (g : Vec Ideal S1x7168 .f32) (p : Vec Ideal S24576x1 .i32) (f : Vec Ideal S1x128 .f32)

/-- The array of codes. -/
def codesArray (i : S24576x7168.Idx) : EReal := codes (norm (fun k => x (ix2 (i 0) k)) (gainRow g)) (i 1)
/-- The array of scales. -/
def scaleArray (i : S24576x1.Idx) : EReal := scale (share (norm (fun k => x (ix2 (i 0) k)) (gainRow g)))
/-- The array of scales, each repeated over 128 lanes. -/
def scaleLanesArray (i : S24576x128.Idx) : EReal := scale (share (norm (fun k => x (ix2 (i 0) k)) (gainRow g)))
/-- The array of cosines. -/
def cosineArray (i : S24576x128.Idx) : EReal := Ideal.cos (angle (p (ix2 (i 0) 0)) (f (ix2 0 (i 1))))
/-- The array of sines, negated in the first 64 lanes. -/
def sineArray (i : S24576x128.Idx) : EReal :=
  if (i 1).val < 64 then -Ideal.sin (angle (p (ix2 (i 0) 0)) (f (ix2 0 (i 1)))) else Ideal.sin (angle (p (ix2 (i 0) 0)) (f (ix2 0 (i 1))))

variable (a : ℕ) (x' : Vec Ideal S256x7168 .bf16) (g' : Vec Ideal S1x7168 .f32) (p' : Vec Ideal S256x1 .i32) (f' : Vec Ideal S1x128 .f32)
  (hx : ∀ (r : Fin 256) (k : Fin 7168) (i : Fin 24576), i.val = a * 256 + r.val → x' (ix2 r k) = x (ix2 i k))
  (hg : ∀ k : Fin 7168, g' (ix2 0 k) = g (ix2 0 k))
  (hp : ∀ (r : Fin 256) (i : Fin 24576), i.val = a * 256 + r.val → p' (ix2 r 0) = p (ix2 i 0))
  (hf : ∀ l : Fin 128, f' (ix2 0 l) = f (ix2 0 l))

include hx hg in
theorem norm_eq (r : Fin 256) (i : Fin 24576) (hi : i.val = a * 256 + r.val) :
    norm (blockRow x' r) (gainRow g') = norm (fun k => x (ix2 i k)) (gainRow g) := by
  have h1 : blockRow x' r = fun k => x (ix2 i k) := funext fun k => hx r k i hi
  have h2 : gainRow g' = gainRow g := funext hg
  rw [h1, h2]

include hx hg in
theorem codesBlock_eq (i : S256x7168.Idx) (k : S24576x7168.Idx) (h0 : (k 0).val = a * 256 + (i 0).val) (h1 : (k 1).val = (i 1).val) :
    codesBlock x' g' i = codesArray x g k := by
  unfold codesBlock codesArray
  rw [norm_eq x g a x' g' hx hg (i 0) (k 0) h0, (Fin.ext h1 : k 1 = i 1)]

include hx hg in
theorem scaleBlock_eq (i : S256x1.Idx) (k : S24576x1.Idx) (h0 : (k 0).val = a * 256 + (i 0).val) :
    scaleBlock x' g' i = scaleArray x g k := by
  unfold scaleBlock scaleArray
  rw [norm_eq x g a x' g' hx hg (i 0) (k 0) h0]

include hx hg in
theorem scaleLanes_eq (i : S256x128.Idx) (k : S24576x128.Idx) (h0 : (k 0).val = a * 256 + (i 0).val) :
    scaleLanes x' g' i = scaleLanesArray x g k := by
  unfold scaleLanes scaleLanesArray
  rw [norm_eq x g a x' g' hx hg (i 0) (k 0) h0]

include hp hf in
theorem cosineBlock_eq (i : S256x128.Idx) (k : S24576x128.Idx) (h0 : (k 0).val = a * 256 + (i 0).val) (h1 : (k 1).val = (i 1).val) :
    cosineBlock p' f' i = cosineArray p f k := by
  unfold cosineBlock cosineArray
  rw [hp (i 0) (k 0) h0, hf (i 1), (Fin.ext h1 : k 1 = i 1)]

include hp hf in
theorem sineBlock_eq (i : S256x128.Idx) (k : S24576x128.Idx) (h0 : (k 0).val = a * 256 + (i 0).val) (h1 : (k 1).val = (i 1).val) :
    sineBlock p' f' i = sineArray p f k := by
  unfold sineBlock sineArray
  rw [hp (i 0) (k 0) h0, hf (i 1), (Fin.ext h1 : k 1 = i 1)]

end Array

end Cert.Proof

end
-- ==== Proof.QuantArrays.lean ====
/- What the kernel's first call leaves in its five results, as functions of the contents it begins with. -/
module

public import proofs.«01_k».proof.Proof.Quant

@[expose] public section

noncomputable section

namespace Cert.Proof

open Cert.KernelIdeal Cert.KernelIdeal.Gen Idealize.ShloMosaic Idealize.ShloMosaic.TcCoe Idealize.SL.Sem
open Idealize.ShloMosaic.Pipeline (Dat)
open scoped BigOperators

/-! ### The blocks' places -/

theorem index0_0 : ∀ t : Fin cfg0.N, win0_0.index t = ![t.val, 0] := (by decide +kernel : ∀ t : Fin grid0.N, _)
theorem index0_1 : ∀ t : Fin cfg0.N, win0_1.index t = ![0, 0] := (by decide +kernel : ∀ t : Fin grid0.N, _)
theorem index0_2 : ∀ t : Fin cfg0.N, win0_2.index t = ![t.val, 0] := (by decide +kernel : ∀ t : Fin grid0.N, _)
theorem index0_3 : ∀ t : Fin cfg0.N, win0_3.index t = ![0, 0] := (by decide +kernel : ∀ t : Fin grid0.N, _)
theorem index0_4 : ∀ t : Fin cfg0.N, win0_4.index t = ![t.val, 0] := (by decide +kernel : ∀ t : Fin grid0.N, _)
theorem index0_5 : ∀ t : Fin cfg0.N, win0_5.index t = ![t.val, 0] := (by decide +kernel : ∀ t : Fin grid0.N, _)
theorem index0_6 : ∀ t : Fin cfg0.N, win0_6.index t = ![t.val, 0] := (by decide +kernel : ∀ t : Fin grid0.N, _)
theorem index0_7 : ∀ t : Fin cfg0.N, win0_7.index t = ![t.val, 0] := (by decide +kernel : ∀ t : Fin grid0.N, _)
theorem index0_8 : ∀ t : Fin cfg0.N, win0_8.index t = ![t.val, 0] := (by decide +kernel : ∀ t : Fin grid0.N, _)

section

variable (V : (c : Dev nD) → (b : Ref sig .tc) → Buf (Elt Ideal) ((c : Thread nD τ).loc b)) (c : Dev nD) (t : Fin cfg0.N)

theorem block0_0 (r : Fin 256) (k : Fin 7168) (i : Fin 24576) (hi : i.val = t.val * 256 + r.val) :
    (iblk0 (F := Ideal) V c 0 t : Vec Ideal S256x7168 .bf16) (ix2 r k) = (V c main_v12 : Vec Ideal S24576x7168 .bf16) (ix2 i k) := by
  blk_simp [iblk0]
  congr 1
  blk_ext [index0_0]

theorem block0_1 (k : Fin 7168) :
    (iblk0 (F := Ideal) V c 1 t : Vec Ideal S1x7168 .f32) (ix2 0 k) = (V c main_v13 : Vec Ideal S1x7168 .f32) (ix2 0 k) := by
  blk_simp [iblk0]
  congr 1
  blk_ext [index0_1]

theorem block0_2 (r : Fin 256) (i : Fin 24576) (hi : i.val = t.val * 256 + r.val) :
    (iblk0 (F := Ideal) V c 2 t : Vec Ideal S256x1 .i32) (ix2 r 0) = (V c main_v14 : Vec Ideal S24576x1 .i32) (ix2 i 0) := by
  blk_simp [iblk0]
  congr 1
  blk_ext [index0_2]

theorem block0_3 (l : Fin 128) :
    (iblk0 (F := Ideal) V c 3 t : Vec Ideal S1x128 .f32) (ix2 0 l) = (V c main_v11 : Vec Ideal S1x128 .f32) (ix2 0 l) := by
  blk_simp [iblk0]
  congr 1
  blk_ext [index0_3]

/-- The first call leaves the array of codes. -/
theorem final0_4 : (dat0 (F := Ideal) V c).arrAt 4 cfg0.N = codesArray (V c main_v12) (V c main_v13) := by
  refine (dat0 (F := Ideal) V c).arrAt_eq_of_covers 4 _ (by decide +kernel) fun t hf y => ?_
  blk_simp
  rw [after0_4, out0_4_eq]
  refine codesBlock_eq _ _ t.val _ _ (block0_0 V c t) (block0_1 V c t) _ _ ?_ ?_
  · blk_simp [index0_4]
  · blk_simp [index0_4]

/-- The first call leaves the array of scales. -/
theorem final0_5 : (dat0 (F := Ideal) V c).arrAt 5 cfg0.N = scaleArray (V c main_v12) (V c main_v13) := by
  refine (dat0 (F := Ideal) V c).arrAt_eq_of_covers 5 _ (by decide +kernel) fun t hf y => ?_
  blk_simp
  rw [after0_5, out0_5_eq]
  refine scaleBlock_eq _ _ t.val _ _ (block0_0 V c t) (block0_1 V c t) _ _ ?_
  · blk_simp [index0_5]

/-- The first call leaves the array of scales over 128 lanes. -/
theorem final0_6 : (dat0 (F := Ideal) V c).arrAt 6 cfg0.N = scaleLanesArray (V c main_v12) (V c main_v13) := by
  refine (dat0 (F := Ideal) V c).arrAt_eq_of_covers 6 _ (by decide +kernel) fun t hf y => ?_
  blk_simp
  rw [after0_6, out0_6_eq]
  refine scaleLanes_eq _ _ t.val _ _ (block0_0 V c t) (block0_1 V c t) _ _ ?_
  · blk_simp [index0_6]

/-- The first call leaves the array of cosines. -/
theorem final0_7 : (dat0 (F := Ideal) V c).arrAt 7 cfg0.N = cosineArray (V c main_v14) (V c main_v11) := by
  refine (dat0 (F := Ideal) V c).arrAt_eq_of_covers 7 _ (by decide +kernel) fun t hf y => ?_
  blk_simp
  rw [after0_7, out0_7_eq]
  refine cosineBlock_eq _ _ t.val _ _ (block0_2 V c t) (block0_3 V c t) _ _ ?_ ?_
  · blk_simp [index0_7]
  · blk_simp [index0_7]

/-- The first call leaves the array of sines. -/
theorem final0_8 : (dat0 (F := Ideal) V c).arrAt 8 cfg0.N = sineArray (V c main_v14) (V c main_v11) := by
  refine (dat0 (F := Ideal) V c).arrAt_eq_of_covers 8 _ (by decide +kernel) fun t hf y => ?_
  blk_simp
  rw [after0_8, out0_8_eq]
  refine sineBlock_eq _ _ t.val _ _ (block0_2 V c t) (block0_3 V c t) _ _ ?_ ?_
  · blk_simp [index0_8]
  · blk_simp [index0_8]

end

end Cert.Proof

end
-- ==== Proof.Heads.lean ====
/- What a projection's body computes of a block of 1024 tokens and 2048 rows of the weights (16 heads of 128), index by
   index. It stores its heads two by two; here each store is one function of the block's index, so the block is. -/
module

public import proofs.«01_k».proof.Proof.Spec
public import proofs.«01_k».proof.Proof.Gen.KernelIdeal.Frame
public import Idealize.ShloMosaic.Lib.Pointwise
public import Idealize.ShloMosaic.Lib.Pipeline.ValueKit

@[expose] public section

noncomputable section

namespace Cert.Proof

open Cert.KernelIdeal Cert.KernelIdeal.Gen Idealize.ShloMosaic Idealize.ShloMosaic.TcCoe Idealize.SL.Sem
open scoped BigOperators

section Terms
variable {F : FTy → Type} [FloatOps F]

/-- The product of the block's codes with the block's rows of the weights. -/
def blockProduct (x : Vec F S1024x7168 .fp8e4m3) (w : Vec F S2048x7168 .fp8e4m3) : FVec F S1024x2048 .f32 :=
  matmul dot_S1024x7168_S2048x7168_S1024x2048_1_1_0_0_n_n none
    (shapeCast S1024x7168 x shapeCasts_S1024x7168_S1024x7168 : FVec F S1024x7168 .fp8e4m3) w (constant S1024x2048 .f32 0x00000000#32)

/-- The head that begins at column `off` of the product, with both scales. -/
def headAt (off : ℕ) (h : S1024x2048.Slices ![0, off] S1024x128) (acc : FVec F S1024x2048 .f32) (s : Vec F S1024x128 .f32)
    (ws : Vec F S1x128 .f32) : FVec F S1024x128 .f32 :=
  mulf (mulf (extractStridedSlice S1024x128 ![0, off] acc h) (shapeCast S1024x128 s shapeCasts_S1024x128_S1024x128))
    (broadcastTo S1024x128 (shapeCast S1x128 ws shapeCasts_S1x128_S1x128 : FVec F S1x128 .f32) broadcasts_S1x128_S1024x128)

/-- A head rotated: the head times the cosines, plus the head's halves exchanged times the signed sines. -/
def turn (y : FVec F S1024x128 .f32) (cosine sine : Vec F S1024x128 .f32) : FVec F S1024x128 .bf16 :=
  truncf .bf16 (addf (mulf y (shapeCast S1024x128 cosine shapeCasts_S1024x128_S1024x128))
    (mulf (dynamicRotate 1 64#32 none y rotates_S1024x128_d1) (shapeCast S1024x128 sine shapeCasts_S1024x128_S1024x128)))
    bitsLt_bf16_f32

/-- Two heads as two adjacent rows of each token. -/
def pair (lo hi : FVec F S1024x128 .bf16) : Vec F S1024x2x128 .bf16 :=
  interleaveRows S1024x2x128 (shapeCast S1024x1x128 lo shapeCasts_S1024x128_S1024x1x128)
    (shapeCast S1024x1x128 hi shapeCasts_S1024x128_S1024x1x128) bitcasts_S1024x2x128_w16_S1024x1x128_w32

end Terms

/-- Column `n` of the product at row `r`. -/
theorem blockProduct_apply (x : Vec Ideal S1024x7168 .fp8e4m3) (w : Vec Ideal S2048x7168 .fp8e4m3) (r : Fin 1024) (n : Fin 2048) :
    blockProduct (F := Ideal) x w (ix2 r n) = product (fun k => x (ix2 r k)) (fun k => w (ix2 n k)) := by
  pointwise [blockProduct]
  rfl

/-- A pair of heads at an index. -/
theorem pair_apply (lo hi : FVec Ideal S1024x128 .bf16) (r : Fin 1024) (p : Fin 2) (l : Fin 128) :
    pair lo hi (ix3 r p l) = if p.val = 0 then lo (ix2 r l) else hi (ix2 r l) := by
  pointwise [pair]
  fin_cases p <;> rfl

/-- A head at an index. -/
theorem headAt_apply (g : ℕ) (hg : g < 16) (off : ℕ) (ho : off = g * 128) (h : S1024x2048.Slices ![0, off] S1024x128)
    (acc : FVec Ideal S1024x2048 .f32) (s : Vec Ideal S1024x128 .f32) (ws : Vec Ideal S1x128 .f32) (r : Fin 1024) (l : Fin 128) :
    headAt off h acc s ws (ix2 r l) = acc (ix2 r ⟨g * 128 + l.val, by omega⟩) * s (ix2 r l) * ws (ix2 0 l) := by
  subst ho
  pointwise [headAt]

/-- A rotated head at an index. -/
theorem turn_apply (y : FVec Ideal S1024x128 .f32) (cosine sine : Vec Ideal S1024x128 .f32) (r : Fin 1024) (l : Fin 128) :
    turn y cosine sine (ix2 r l)
      = y (ix2 r l) * cosine (ix2 r l) + y (ix2 r ⟨(l.val + 64) % 128, Nat.mod_lt _ (by decide)⟩) * sine (ix2 r l) := by
  pointwise [turn]
  have h : (l.val + 128 - 64) % 128 = (l.val + 64) % 128 := by omega
  simp only [h]

/-- Lane `l` of head `g` of a block's product with its rows of the weights, with both scales. -/
def blockHead (x : Vec Ideal S1024x7168 .fp8e4m3) (w : Vec Ideal S2048x7168 .fp8e4m3) (ws : Vec Ideal S1x2048 .f32)
    (s : Vec Ideal S1024x128 .f32) (r : Fin 1024) (g : Fin 16) (l : Fin 128) : EReal :=
  product (fun k => x (ix2 r k)) (fun k => w (ix2 ⟨g.val * 128 + l.val, by omega⟩ k)) * s (ix2 r l)
    * ws (ix2 0 ⟨g.val * 128 + l.val, by omega⟩)

/-- The block of rotated heads, index by index. -/
def turnedBlock (x : Vec Ideal S1024x7168 .fp8e4m3) (w : Vec Ideal S2048x7168 .fp8e4m3) (ws : Vec Ideal S1x2048 .f32)
    (s cosine sine : Vec Ideal S1024x128 .f32) (i : S1024x16x128.Idx) : EReal :=
  blockHead x w ws s (i 0) (i 1) (i 2) * cosine (ix2 (i 0) (i 2))
    + blockHead x w ws s (i 0) (i 1) ⟨((i 2).val + 64) % 128, Nat.mod_lt _ (by decide)⟩ * sine (ix2 (i 0) (i 2))

/-- The block of heads not rotated, index by index. -/
def plainBlock (x : Vec Ideal S1024x7168 .fp8e4m3) (w : Vec Ideal S2048x7168 .fp8e4m3) (ws : Vec Ideal S1x2048 .f32)
    (s : Vec Ideal S1024x128 .f32) (i : S1024x16x128.Idx) : EReal :=
  blockHead x w ws s (i 0) (i 1) (i 2)

/-- A head cut out of the product, with the scales loaded from its columns, at an index. -/
theorem headAt_load (g off : ℕ) (hg : g < 16) (ho : off = g * 128) (h : S1024x2048.Slices ![0, off] S1024x128)
    (inb : ∀ a, (![0, off] : Fin 2 → ℕ) a + S1x128.size a ≤ S1x2048.size a)
    (x : Vec Ideal S1024x7168 .fp8e4m3) (w : Vec Ideal S2048x7168 .fp8e4m3) (ws : Vec Ideal S1x2048 .f32)
    (s : Vec Ideal S1024x128 .f32) (r : Fin 1024) (l : Fin 128) :
    headAt off h (blockProduct x w) s (View.ld ws (Rect.unit (s := S1x2048) ![0, off] S1x128.size inb)) (ix2 r l)
      = blockHead x w ws s r ⟨g, hg⟩ l := by
  rw [headAt_apply g hg off ho, blockProduct_apply]
  unfold blockHead
  congr 1
  show ws _ = ws _
  congr 1
  funext a
  apply Fin.ext
  match a with
  | ⟨0, _⟩ => rfl
  | ⟨1, _⟩ => show off + 1 * l.val = g * 128 + l.val; omega

/-- A stored pair of rotated heads is the block at the place it is stored to. -/
theorem turned_piece (g off off' : ℕ) (hg : g + 1 < 16) (ho : off = g * 128) (ho' : off' = (g + 1) * 128)
    (h : S1024x2048.Slices ![0, off] S1024x128) (h' : S1024x2048.Slices ![0, off'] S1024x128)
    (inb : ∀ a, (![0, off] : Fin 2 → ℕ) a + S1x128.size a ≤ S1x2048.size a)
    (inb' : ∀ a, (![0, off'] : Fin 2 → ℕ) a + S1x128.size a ≤ S1x2048.size a)
    (inbs : ∀ a, (![0, g, 0] : Fin 3 → ℕ) a + S1024x2x128.size a ≤ S1024x16x128.size a)
    (x : Vec Ideal S1024x7168 .fp8e4m3) (w : Vec Ideal S2048x7168 .fp8e4m3) (ws : Vec Ideal S1x2048 .f32)
    (s cosine sine : Vec Ideal S1024x128 .f32) (j : S1024x2x128.Idx) :
    pair (turn (headAt off h (blockProduct x w) s (View.ld ws (Rect.unit (s := S1x2048) ![0, off] S1x128.size inb))) cosine sine)
        (turn (headAt off' h' (blockProduct x w) s (View.ld ws (Rect.unit (s := S1x2048) ![0, off'] S1x128.size inb'))) cosine sine) j
      = turnedBlock x w ws s cosine sine ((Rect.unit (s := S1024x16x128) ![0, g, 0] S1024x2x128.size inbs).emb j) := by
  obtain ⟨r, p, l, rfl⟩ : ∃ (r : Fin 1024) (p : Fin 2) (l : Fin 128), j = ix3 r p l := ⟨j 0, j 1, j 2, eq_ix3 j⟩
  have e : (Rect.unit (s := S1024x16x128) ![0, g, 0] S1024x2x128.size inbs).emb (ix3 r p l)
      = (ix3 r ⟨g + p.val, by omega⟩ l : S1024x16x128.Idx) := by
    funext a
    apply Fin.ext
    match a with
    | ⟨0, _⟩ => show 0 + 1 * r.val = r.val; omega
    | ⟨1, _⟩ => show g + 1 * p.val = g + p.val; omega
    | ⟨2, _⟩ => show 0 + 1 * l.val = l.val; omega
  rw [e, pair_apply]
  match p with
  | ⟨0, _⟩ =>
    rw [if_pos rfl, turn_apply, headAt_load g off (by omega) ho, headAt_load g off (by omega) ho]
    rfl
  | ⟨1, _⟩ =>
    rw [if_neg Nat.one_ne_zero, turn_apply, headAt_load (g + 1) off' (by omega) ho', headAt_load (g + 1) off' (by omega) ho']
    rfl

/-- A stored pair of heads not rotated is the block at the place it is stored to. -/
theorem plain_piece (g off off' : ℕ) (hg : g + 1 < 16) (ho : off = g * 128) (ho' : off' = (g + 1) * 128)
    (h : S1024x2048.Slices ![0, off] S1024x128) (h' : S1024x2048.Slices ![0, off'] S1024x128)
    (inb : ∀ a, (![0, off] : Fin 2 → ℕ) a + S1x128.size a ≤ S1x2048.size a)
    (inb' : ∀ a, (![0, off'] : Fin 2 → ℕ) a + S1x128.size a ≤ S1x2048.size a)
    (inbs : ∀ a, (![0, g, 0] : Fin 3 → ℕ) a + S1024x2x128.size a ≤ S1024x16x128.size a)
    (x : Vec Ideal S1024x7168 .fp8e4m3) (w : Vec Ideal S2048x7168 .fp8e4m3) (ws : Vec Ideal S1x2048 .f32)
    (s : Vec Ideal S1024x128 .f32) (j : S1024x2x128.Idx) :
    pair (truncf .bf16 (headAt off h (blockProduct x w) s (View.ld ws (Rect.unit (s := S1x2048) ![0, off] S1x128.size inb))) bitsLt_bf16_f32)
        (truncf .bf16 (headAt off' h' (blockProduct x w) s (View.ld ws (Rect.unit (s := S1x2048) ![0, off'] S1x128.size inb'))) bitsLt_bf16_f32) j
      = plainBlock x w ws s ((Rect.unit (s := S1024x16x128) ![0, g, 0] S1024x2x128.size inbs).emb j) := by
  obtain ⟨r, p, l, rfl⟩ : ∃ (r : Fin 1024) (p : Fin 2) (l : Fin 128), j = ix3 r p l := ⟨j 0, j 1, j 2, eq_ix3 j⟩
  have e : (Rect.unit (s := S1024x16x128) ![0, g, 0] S1024x2x128.size inbs).emb (ix3 r p l)
      = (ix3 r ⟨g + p.val, by omega⟩ l : S1024x16x128.Idx) := by
    funext a
    apply Fin.ext
    match a with
    | ⟨0, _⟩ => show 0 + 1 * r.val = r.val; omega
    | ⟨1, _⟩ => show g + 1 * p.val = g + p.val; omega
    | ⟨2, _⟩ => show 0 + 1 * l.val = l.val; omega
  rw [e, pair_apply]
  match p with
  | ⟨0, _⟩ => rw [if_pos rfl]; exact headAt_load g off (by omega) ho h inb x w ws s r l
  | ⟨1, _⟩ => rw [if_neg Nat.one_ne_zero]; exact headAt_load (g + 1) off' (by omega) ho' h' inb' x w ws s r l

/-! ### From the blocks to the arrays -/

/-- Lane `l` of head `g` of a token's product with the rows of the weights from row `base` on, with both scales. -/
def arrayHead (base : ℕ) (hbase : base + 8192 ≤ 24576) (q w : Vec Ideal S24576x7168 .fp8e4m3) (ws : Vec Ideal S1x24576 .f32)
    (s : Vec Ideal S24576x128 .f32) (r : Fin 24576) (g : Fin 64) (l : Fin 128) : EReal :=
  product (fun k => q (ix2 r k)) (fun k => w (ix2 ⟨base + (g.val * 128 + l.val), by omega⟩ k)) * s (ix2 r l)
    * ws (ix2 0 ⟨base + (g.val * 128 + l.val), by omega⟩)

/-- The array of rotated heads, index by index. -/
def turnedArray (base : ℕ) (hbase : base + 8192 ≤ 24576) (q w : Vec Ideal S24576x7168 .fp8e4m3) (ws : Vec Ideal S1x24576 .f32)
    (s cosine sine : Vec Ideal S24576x128 .f32) (i : S24576x64x128.Idx) : EReal :=
  arrayHead base hbase q w ws s (i 0) (i 1) (i 2) * cosine (ix2 (i 0) (i 2))
    + arrayHead base hbase q w ws s (i 0) (i 1) ⟨((i 2).val + 64) % 128, Nat.mod_lt _ (by decide)⟩ * sine (ix2 (i 0) (i 2))

/-- The array of heads not rotated, index by index. -/
def plainArray (base : ℕ) (hbase : base + 8192 ≤ 24576) (q w : Vec Ideal S24576x7168 .fp8e4m3) (ws : Vec Ideal S1x24576 .f32)
    (s : Vec Ideal S24576x128 .f32) (i : S24576x64x128.Idx) : EReal :=
  arrayHead base hbase q w ws s (i 0) (i 1) (i 2)

section Blocks

variable (base a b : ℕ) (hbase : base + 8192 ≤ 24576)
  (q w : Vec Ideal S24576x7168 .fp8e4m3) (ws : Vec Ideal S1x24576 .f32) (s cosine sine : Vec Ideal S24576x128 .f32)
  (x' : Vec Ideal S1024x7168 .fp8e4m3) (w' : Vec Ideal S2048x7168 .fp8e4m3) (ws' : Vec Ideal S1x2048 .f32)
  (s' cosine' sine' : Vec Ideal S1024x128 .f32)
  (hx : ∀ (r : Fin 1024) (k : Fin 7168) (i : Fin 24576), i.val = a * 1024 + r.val → x' (ix2 r k) = q (ix2 i k))
  (hw : ∀ (n : Fin 2048) (k : Fin 7168) (i : Fin 24576), i.val = base + (b * 2048 + n.val) → w' (ix2 n k) = w (ix2 i k))
  (hws : ∀ (n : Fin 2048) (i : Fin 24576), i.val = base + (b * 2048 + n.val) → ws' (ix2 0 n) = ws (ix2 0 i))
  (hs : ∀ (r : Fin 1024) (l : Fin 128) (i : Fin 24576), i.val = a * 1024 + r.val → s' (ix2 r l) = s (ix2 i l))
  (hcosine : ∀ (r : Fin 1024) (l : Fin 128) (i : Fin 24576), i.val = a * 1024 + r.val → cosine' (ix2 r l) = cosine (ix2 i l))
  (hsine : ∀ (r : Fin 1024) (l : Fin 128) (i : Fin 24576), i.val = a * 1024 + r.val → sine' (ix2 r l) = sine (ix2 i l))

include hx hw hws hs in
/-- A block's head is the array's head at the block's place. -/
theorem blockHead_eq (r : Fin 1024) (g : Fin 16) (l : Fin 128) (r' : Fin 24576) (g' : Fin 64) (hr : r'.val = a * 1024 + r.val)
    (hg : g'.val = b * 16 + g.val) : blockHead x' w' ws' s' r g l = arrayHead base hbase q w ws s r' g' l := by
  unfold blockHead arrayHead
  rw [hws _ ⟨base + (g'.val * 128 + l.val), by omega⟩ (by show base + (g'.val * 128 + l.val) = base + (b * 2048 + (g.val * 128 + l.val)); omega),
    hs r l r' hr]
  have hp : product (fun k => x' (ix2 r k)) (fun k => w' (ix2 ⟨g.val * 128 + l.val, by omega⟩ k))
      = product (fun k => q (ix2 r' k)) (fun k => w (ix2 ⟨base + (g'.val * 128 + l.val), by omega⟩ k)) :=
    Finset.sum_congr rfl fun k _ => congrArg₂ (fun u v : EReal => u * v) (hx r k r' hr)
      (hw _ k ⟨base + (g'.val * 128 + l.val), by omega⟩
        (by show base + (g'.val * 128 + l.val) = base + (b * 2048 + (g.val * 128 + l.val)); omega))
  rw [hp]

include hx hw hws hs hcosine hsine in
/-- A block of rotated heads is the array at the block's place. -/
theorem turnedBlock_eq (i : S1024x16x128.Idx) (k : S24576x64x128.Idx) (h0 : (k 0).val = a * 1024 + (i 0).val)
    (h1 : (k 1).val = b * 16 + (i 1).val) (h2 : (k 2).val = (i 2).val) :
    turnedBlock x' w' ws' s' cosine' sine' i = turnedArray base hbase q w ws s cosine sine k := by
  obtain ⟨r, g, l, rfl⟩ : ∃ (r : Fin 1024) (g : Fin 16) (l : Fin 128), i = ix3 r g l := ⟨i 0, i 1, i 2, eq_ix3 i⟩
  obtain ⟨r', g', l', rfl⟩ : ∃ (r : Fin 24576) (g : Fin 64) (l : Fin 128), k = ix3 r g l := ⟨k 0, k 1, k 2, eq_ix3 k⟩
  obtain rfl : l' = l := Fin.ext h2
  replace h0 : r'.val = a * 1024 + r.val := h0
  replace h1 : g'.val = b * 16 + g.val := h1
  show blockHead x' w' ws' s' r g l' * cosine' (ix2 r l') + blockHead x' w' ws' s' r g _ * sine' (ix2 r l')
    = arrayHead base hbase q w ws s r' g' l' * cosine (ix2 r' l') + arrayHead base hbase q w ws s r' g' _ * sine (ix2 r' l')
  rw [blockHead_eq base a b hbase q w ws s x' w' ws' s' hx hw hws hs r g _ r' g' h0 h1,
    blockHead_eq base a b hbase q w ws s x' w' ws' s' hx hw hws hs r g _ r' g' h0 h1, hcosine r l' r' h0, hsine r l' r' h0]
  rfl

include hx hw hws hs in
/-- A block of heads not rotated is the array at the block's place. -/
theorem plainBlock_eq (i : S1024x16x128.Idx) (k : S24576x64x128.Idx) (h0 : (k 0).val = a * 1024 + (i 0).val)
    (h1 : (k 1).val = b * 16 + (i 1).val) (h2 : (k 2).val = (i 2).val) :
    plainBlock x' w' ws' s' i = plainArray base hbase q w ws s k := by
  obtain ⟨r, g, l, rfl⟩ : ∃ (r : Fin 1024) (g : Fin 16) (l : Fin 128), i = ix3 r g l := ⟨i 0, i 1, i 2, eq_ix3 i⟩
  obtain ⟨r', g', l', rfl⟩ : ∃ (r : Fin 24576) (g : Fin 64) (l : Fin 128), k = ix3 r g l := ⟨k 0, k 1, k 2, eq_ix3 k⟩
  obtain rfl : l' = l := Fin.ext h2
  exact blockHead_eq base a b hbase q w ws s x' w' ws' s' hx hw hws hs r g l' r' g' h0 h1

end Blocks

end Cert.Proof

end
-- ==== Proof.Project1.lean ====
/- The queries' projection: what it leaves in its result, as a function of the contents it begins with. -/
module

public import proofs.«01_k».proof.Proof.Heads

@[expose] public section

noncomputable section

namespace Cert.Proof

open Cert.KernelIdeal Cert.KernelIdeal.Gen Idealize.ShloMosaic Idealize.ShloMosaic.TcCoe Idealize.SL.Sem
open Idealize.ShloMosaic.Pipeline (Dat)
open scoped BigOperators

/-- The body leaves the block of rotated heads of its inputs. -/
theorem out1_6_eq (x0 : Vec Ideal S1024x7168 .fp8e4m3) (x1 : Vec Ideal S2048x7168 .fp8e4m3) (x2 : Vec Ideal S1x2048 .f32)
    (x3 x4 x5 : Vec Ideal S1024x128 .f32) : out1_6 (F := Ideal) x0 x1 x2 x3 x4 x5 = turnedBlock x0 x1 x2 x3 x4 x5 := by
  have hz : (![0, 0] : Fin 2 → ℕ) = fun _ => 0 := funext fun a => by fin_cases a <;> rfl
  have hl : turnedBlock (View.ld x0 r1_0) (View.ld x1 r1_1) x2 (View.ld x3 r1_2) (View.ld x4 r1_2) (View.ld x5 r1_2) = turnedBlock x0 x1 x2 x3 x4 x5 := by
    rw [View.ld_unit_zero hz, View.ld_unit_zero hz, View.ld_unit_zero hz, View.ld_unit_zero hz, View.ld_unit_zero hz]
  rw [← hl]
  funext y
  unfold out1_6
  refine View.canon_apply_of_pieces (Val := Elt Ideal) (e := .bf16) (turnedBlock (View.ld x0 r1_0) (View.ld x1 r1_1) x2 (View.ld x3 r1_2) (View.ld x4 r1_2) (View.ld x5 r1_2)) _ (fun p hp j => ?_) y (cover1_6 _ _ _ _ _ _ _ _ y)
  simp only [List.mem_cons, List.mem_nil_iff, or_false] at hp
  rcases hp with rfl | rfl | rfl | rfl | rfl | rfl | rfl | rfl
  · exact turned_piece 14 1792 1920 (by decide) rfl rfl _ _ inb_S1x2048_S1x128_0_1792 inb_S1x2048_S1x128_0_1920 inb_S1024x16x128_S1024x2x128_0_14_0 (View.ld x0 r1_0) (View.ld x1 r1_1) x2 (View.ld x3 r1_2) (View.ld x4 r1_2) (View.ld x5 r1_2) j
  · exact turned_piece 12 1536 1664 (by decide) rfl rfl _ _ inb_S1x2048_S1x128_0_1536 inb_S1x2048_S1x128_0_1664 inb_S1024x16x128_S1024x2x128_0_12_0 (View.ld x0 r1_0) (View.ld x1 r1_1) x2 (View.ld x3 r1_2) (View.ld x4 r1_2) (View.ld x5 r1_2) j
  · exact turned_piece 10 1280 1408 (by decide) rfl rfl _ _ inb_S1x2048_S1x128_0_1280 inb_S1x2048_S1x128_0_1408 inb_S1024x16x128_S1024x2x128_0_10_0 (View.ld x0 r1_0) (View.ld x1 r1_1) x2 (View.ld x3 r1_2) (View.ld x4 r1_2) (View.ld x5 r1_2) j
  · exact turned_piece 8 1024 1152 (by decide) rfl rfl _ _ inb_S1x2048_S1x128_0_1024 inb_S1x2048_S1x128_0_1152 inb_S1024x16x128_S1024x2x128_0_8_0 (View.ld x0 r1_0) (View.ld x1 r1_1) x2 (View.ld x3 r1_2) (View.ld x4 r1_2) (View.ld x5 r1_2) j
  · exact turned_piece 6 768 896 (by decide) rfl rfl _ _ inb_S1x2048_S1x128_0_768 inb_S1x2048_S1x128_0_896 inb_S1024x16x128_S1024x2x128_0_6_0 (View.ld x0 r1_0) (View.ld x1 r1_1) x2 (View.ld x3 r1_2) (View.ld x4 r1_2) (View.ld x5 r1_2) j
  · exact turned_piece 4 512 640 (by decide) rfl rfl _ _ inb_S1x2048_S1x128_0_512 inb_S1x2048_S1x128_0_640 inb_S1024x16x128_S1024x2x128_0_4_0 (View.ld x0 r1_0) (View.ld x1 r1_1) x2 (View.ld x3 r1_2) (View.ld x4 r1_2) (View.ld x5 r1_2) j
  · exact turned_piece 2 256 384 (by decide) rfl rfl _ _ inb_S1x2048_S1x128_0_256 inb_S1x2048_S1x128_0_384 inb_S1024x16x128_S1024x2x128_0_2_0 (View.ld x0 r1_0) (View.ld x1 r1_1) x2 (View.ld x3 r1_2) (View.ld x4 r1_2) (View.ld x5 r1_2) j
  · exact turned_piece 0 0 128 (by decide) rfl rfl _ _ inb_S1x2048_S1x128_0_0 inb_S1x2048_S1x128_0_128 inb_S1024x16x128_S1024x2x128_0_0_0 (View.ld x0 r1_0) (View.ld x1 r1_1) x2 (View.ld x3 r1_2) (View.ld x4 r1_2) (View.ld x5 r1_2) j

/-! ### The blocks' places -/

theorem index1_0 : ∀ t : Fin cfg1.N, win1_0.index t = ![(grid1.coords t 0).val, 0] := (by decide +kernel : ∀ t : Fin grid1.N, _)
theorem index1_1 : ∀ t : Fin cfg1.N, win1_1.index t = ![(grid1.coords t 1).val, 0] := (by decide +kernel : ∀ t : Fin grid1.N, _)
theorem index1_2 : ∀ t : Fin cfg1.N, win1_2.index t = ![0, (grid1.coords t 1).val] := (by decide +kernel : ∀ t : Fin grid1.N, _)
theorem index1_3 : ∀ t : Fin cfg1.N, win1_3.index t = ![(grid1.coords t 0).val, 0] := (by decide +kernel : ∀ t : Fin grid1.N, _)
theorem index1_4 : ∀ t : Fin cfg1.N, win1_4.index t = ![(grid1.coords t 0).val, 0] := (by decide +kernel : ∀ t : Fin grid1.N, _)
theorem index1_5 : ∀ t : Fin cfg1.N, win1_5.index t = ![(grid1.coords t 0).val, 0] := (by decide +kernel : ∀ t : Fin grid1.N, _)
theorem index1_6 : ∀ t : Fin cfg1.N, win1_6.index t = ![(grid1.coords t 0).val, (grid1.coords t 1).val, 0] := (by decide +kernel : ∀ t : Fin grid1.N, _)

/-- The projection leaves the array of rotated heads of its inputs. -/
theorem final1 (V : (c : Dev nD) → (b : Ref sig .tc) → Buf (Elt Ideal) ((c : Thread nD τ).loc b)) (c : Dev nD) :
    (dat1 (F := Ideal) V c).arrAt 6 cfg1.N
      = turnedArray 0 (by decide) (V c main_v15_0) (V c main_arg2) (V c main_v16) (V c main_v15_2) (V c main_v15_3) (V c main_v15_4) := by
  refine (dat1 (F := Ideal) V c).arrAt_eq_of_covers 6 _ (by decide +kernel) fun t hf y => ?_
  blk_simp
  rw [after1_6, out1_6_eq]
  refine turnedBlock_eq 0 (grid1.coords t 0).val (grid1.coords t 1).val (by decide) _ _ _ _ _ _ _ _ _ _ _ _ ?_ ?_ ?_ ?_ ?_ ?_ _ _ ?_ ?_ ?_
  · intro r k i hi
    blk_simp [iblk1]
    congr 1
    blk_ext [index1_0]
  · intro n k i hi
    blk_simp [iblk1]
    congr 1
    blk_ext [index1_1]
  · intro n i hi
    blk_simp [iblk1]
    congr 1
    blk_ext [index1_2]
  · intro r l i hi
    blk_simp [iblk1]
    congr 1
    blk_ext [index1_3]
  · intro r l i hi
    blk_simp [iblk1]
    congr 1
    blk_ext [index1_4]
  · intro r l i hi
    blk_simp [iblk1]
    congr 1
    blk_ext [index1_5]
  · blk_simp [index1_6]
  · blk_simp [index1_6]
  · blk_simp [index1_6]

end Cert.Proof

end
-- ==== Proof.Project2.lean ====
/- The keys' projection: what it leaves in its result, as a function of the contents it begins with. -/
module

public import proofs.«01_k».proof.Proof.Heads

@[expose] public section

noncomputable section

namespace Cert.Proof

open Cert.KernelIdeal Cert.KernelIdeal.Gen Idealize.ShloMosaic Idealize.ShloMosaic.TcCoe Idealize.SL.Sem
open Idealize.ShloMosaic.Pipeline (Dat)
open scoped BigOperators

/-- The body leaves the block of rotated heads of its inputs. -/
theorem out2_6_eq (x0 : Vec Ideal S1024x7168 .fp8e4m3) (x1 : Vec Ideal S2048x7168 .fp8e4m3) (x2 : Vec Ideal S1x2048 .f32)
    (x3 x4 x5 : Vec Ideal S1024x128 .f32) : out2_6 (F := Ideal) x0 x1 x2 x3 x4 x5 = turnedBlock x0 x1 x2 x3 x4 x5 := by
  have hz : (![0, 0] : Fin 2 → ℕ) = fun _ => 0 := funext fun a => by fin_cases a <;> rfl
  have hl : turnedBlock (View.ld x0 r2_0) (View.ld x1 r2_1) x2 (View.ld x3 r2_2) (View.ld x4 r2_2) (View.ld x5 r2_2) = turnedBlock x0 x1 x2 x3 x4 x5 := by
    rw [View.ld_unit_zero hz, View.ld_unit_zero hz, View.ld_unit_zero hz, View.ld_unit_zero hz, View.ld_unit_zero hz]
  rw [← hl]
  funext y
  unfold out2_6
  refine View.canon_apply_of_pieces (Val := Elt Ideal) (e := .bf16) (turnedBlock (View.ld x0 r2_0) (View.ld x1 r2_1) x2 (View.ld x3 r2_2) (View.ld x4 r2_2) (View.ld x5 r2_2)) _ (fun p hp j => ?_) y (cover2_6 _ _ _ _ _ _ _ _ y)
  simp only [List.mem_cons, List.mem_nil_iff, or_false] at hp
  rcases hp with rfl | rfl | rfl | rfl | rfl | rfl | rfl | rfl
  · exact turned_piece 14 1792 1920 (by decide) rfl rfl _ _ inb_S1x2048_S1x128_0_1792 inb_S1x2048_S1x128_0_1920 inb_S1024x16x128_S1024x2x128_0_14_0 (View.ld x0 r2_0) (View.ld x1 r2_1) x2 (View.ld x3 r2_2) (View.ld x4 r2_2) (View.ld x5 r2_2) j
  · exact turned_piece 12 1536 1664 (by decide) rfl rfl _ _ inb_S1x2048_S1x128_0_1536 inb_S1x2048_S1x128_0_1664 inb_S1024x16x128_S1024x2x128_0_12_0 (View.ld x0 r2_0) (View.ld x1 r2_1) x2 (View.ld x3 r2_2) (View.ld x4 r2_2) (View.ld x5 r2_2) j
  · exact turned_piece 10 1280 1408 (by decide) rfl rfl _ _ inb_S1x2048_S1x128_0_1280 inb_S1x2048_S1x128_0_1408 inb_S1024x16x128_S1024x2x128_0_10_0 (View.ld x0 r2_0) (View.ld x1 r2_1) x2 (View.ld x3 r2_2) (View.ld x4 r2_2) (View.ld x5 r2_2) j
  · exact turned_piece 8 1024 1152 (by decide) rfl rfl _ _ inb_S1x2048_S1x128_0_1024 inb_S1x2048_S1x128_0_1152 inb_S1024x16x128_S1024x2x128_0_8_0 (View.ld x0 r2_0) (View.ld x1 r2_1) x2 (View.ld x3 r2_2) (View.ld x4 r2_2) (View.ld x5 r2_2) j
  · exact turned_piece 6 768 896 (by decide) rfl rfl _ _ inb_S1x2048_S1x128_0_768 inb_S1x2048_S1x128_0_896 inb_S1024x16x128_S1024x2x128_0_6_0 (View.ld x0 r2_0) (View.ld x1 r2_1) x2 (View.ld x3 r2_2) (View.ld x4 r2_2) (View.ld x5 r2_2) j
  · exact turned_piece 4 512 640 (by decide) rfl rfl _ _ inb_S1x2048_S1x128_0_512 inb_S1x2048_S1x128_0_640 inb_S1024x16x128_S1024x2x128_0_4_0 (View.ld x0 r2_0) (View.ld x1 r2_1) x2 (View.ld x3 r2_2) (View.ld x4 r2_2) (View.ld x5 r2_2) j
  · exact turned_piece 2 256 384 (by decide) rfl rfl _ _ inb_S1x2048_S1x128_0_256 inb_S1x2048_S1x128_0_384 inb_S1024x16x128_S1024x2x128_0_2_0 (View.ld x0 r2_0) (View.ld x1 r2_1) x2 (View.ld x3 r2_2) (View.ld x4 r2_2) (View.ld x5 r2_2) j
  · exact turned_piece 0 0 128 (by decide) rfl rfl _ _ inb_S1x2048_S1x128_0_0 inb_S1x2048_S1x128_0_128 inb_S1024x16x128_S1024x2x128_0_0_0 (View.ld x0 r2_0) (View.ld x1 r2_1) x2 (View.ld x3 r2_2) (View.ld x4 r2_2) (View.ld x5 r2_2) j

/-! ### The blocks' places -/

theorem index2_0 : ∀ t : Fin cfg2.N, win2_0.index t = ![(grid2.coords t 0).val, 0] := (by decide +kernel : ∀ t : Fin grid2.N, _)
theorem index2_1 : ∀ t : Fin cfg2.N, win2_1.index t = ![(grid2.coords t 1).val + 4, 0] := (by decide +kernel : ∀ t : Fin grid2.N, _)
theorem index2_2 : ∀ t : Fin cfg2.N, win2_2.index t = ![0, (grid2.coords t 1).val + 4] := (by decide +kernel : ∀ t : Fin grid2.N, _)
theorem index2_3 : ∀ t : Fin cfg2.N, win2_3.index t = ![(grid2.coords t 0).val, 0] := (by decide +kernel : ∀ t : Fin grid2.N, _)
theorem index2_4 : ∀ t : Fin cfg2.N, win2_4.index t = ![(grid2.coords t 0).val, 0] := (by decide +kernel : ∀ t : Fin grid2.N, _)
theorem index2_5 : ∀ t : Fin cfg2.N, win2_5.index t = ![(grid2.coords t 0).val, 0] := (by decide +kernel : ∀ t : Fin grid2.N, _)
theorem index2_6 : ∀ t : Fin cfg2.N, win2_6.index t = ![(grid2.coords t 0).val, (grid2.coords t 1).val, 0] := (by decide +kernel : ∀ t : Fin grid2.N, _)

/-- The projection leaves the array of rotated heads of its inputs. -/
theorem final2 (V : (c : Dev nD) → (b : Ref sig .tc) → Buf (Elt Ideal) ((c : Thread nD τ).loc b)) (c : Dev nD) :
    (dat2 (F := Ideal) V c).arrAt 6 cfg2.N
      = turnedArray 8192 (by decide) (V c main_v15_0) (V c main_arg2) (V c main_v16) (V c main_v15_2) (V c main_v15_3) (V c main_v15_4) := by
  refine (dat2 (F := Ideal) V c).arrAt_eq_of_covers 6 _ (by decide +kernel) fun t hf y => ?_
  blk_simp
  rw [after2_6, out2_6_eq]
  refine turnedBlock_eq 8192 (grid2.coords t 0).val (grid2.coords t 1).val (by decide) _ _ _ _ _ _ _ _ _ _ _ _ ?_ ?_ ?_ ?_ ?_ ?_ _ _ ?_ ?_ ?_
  · intro r k i hi
    blk_simp [iblk2]
    congr 1
    blk_ext [index2_0]
  · intro n k i hi
    blk_simp [iblk2]
    congr 1
    blk_ext [index2_1]
  · intro n i hi
    blk_simp [iblk2]
    congr 1
    blk_ext [index2_2]
  · intro r l i hi
    blk_simp [iblk2]
    congr 1
    blk_ext [index2_3]
  · intro r l i hi
    blk_simp [iblk2]
    congr 1
    blk_ext [index2_4]
  · intro r l i hi
    blk_simp [iblk2]
    congr 1
    blk_ext [index2_5]
  · blk_simp [index2_6]
  · blk_simp [index2_6]
  · blk_simp [index2_6]

end Cert.Proof

end
-- ==== Proof.Project3.lean ====
/- The values' projection: what it leaves in its result, as a function of the contents it begins with. -/
module

public import proofs.«01_k».proof.Proof.Heads

@[expose] public section

noncomputable section

namespace Cert.Proof

open Cert.KernelIdeal Cert.KernelIdeal.Gen Idealize.ShloMosaic Idealize.ShloMosaic.TcCoe Idealize.SL.Sem
open Idealize.ShloMosaic.Pipeline (Dat)
open scoped BigOperators

/-- The body leaves the block of plain heads of its inputs. -/
theorem out3_6_eq (x0 : Vec Ideal S1024x7168 .fp8e4m3) (x1 : Vec Ideal S2048x7168 .fp8e4m3) (x2 : Vec Ideal S1x2048 .f32)
    (x3 x4 x5 : Vec Ideal S1024x128 .f32) : out3_6 (F := Ideal) x0 x1 x2 x3 x4 x5 = plainBlock x0 x1 x2 x3 := by
  have hz : (![0, 0] : Fin 2 → ℕ) = fun _ => 0 := funext fun a => by fin_cases a <;> rfl
  have hl : plainBlock (View.ld x0 r3_0) (View.ld x1 r3_1) x2 (View.ld x3 r3_2) = plainBlock x0 x1 x2 x3 := by
    rw [View.ld_unit_zero hz, View.ld_unit_zero hz, View.ld_unit_zero hz]
  rw [← hl]
  funext y
  unfold out3_6
  refine View.canon_apply_of_pieces (Val := Elt Ideal) (e := .bf16) (plainBlock (View.ld x0 r3_0) (View.ld x1 r3_1) x2 (View.ld x3 r3_2)) _ (fun p hp j => ?_) y (cover3_6 _ _ _ _ _ _ _ _ y)
  simp only [List.mem_cons, List.mem_nil_iff, or_false] at hp
  rcases hp with rfl | rfl | rfl | rfl | rfl | rfl | rfl | rfl
  · exact plain_piece 14 1792 1920 (by decide) rfl rfl _ _ inb_S1x2048_S1x128_0_1792 inb_S1x2048_S1x128_0_1920 inb_S1024x16x128_S1024x2x128_0_14_0 (View.ld x0 r3_0) (View.ld x1 r3_1) x2 (View.ld x3 r3_2) j
  · exact plain_piece 12 1536 1664 (by decide) rfl rfl _ _ inb_S1x2048_S1x128_0_1536 inb_S1x2048_S1x128_0_1664 inb_S1024x16x128_S1024x2x128_0_12_0 (View.ld x0 r3_0) (View.ld x1 r3_1) x2 (View.ld x3 r3_2) j
  · exact plain_piece 10 1280 1408 (by decide) rfl rfl _ _ inb_S1x2048_S1x128_0_1280 inb_S1x2048_S1x128_0_1408 inb_S1024x16x128_S1024x2x128_0_10_0 (View.ld x0 r3_0) (View.ld x1 r3_1) x2 (View.ld x3 r3_2) j
  · exact plain_piece 8 1024 1152 (by decide) rfl rfl _ _ inb_S1x2048_S1x128_0_1024 inb_S1x2048_S1x128_0_1152 inb_S1024x16x128_S1024x2x128_0_8_0 (View.ld x0 r3_0) (View.ld x1 r3_1) x2 (View.ld x3 r3_2) j
  · exact plain_piece 6 768 896 (by decide) rfl rfl _ _ inb_S1x2048_S1x128_0_768 inb_S1x2048_S1x128_0_896 inb_S1024x16x128_S1024x2x128_0_6_0 (View.ld x0 r3_0) (View.ld x1 r3_1) x2 (View.ld x3 r3_2) j
  · exact plain_piece 4 512 640 (by decide) rfl rfl _ _ inb_S1x2048_S1x128_0_512 inb_S1x2048_S1x128_0_640 inb_S1024x16x128_S1024x2x128_0_4_0 (View.ld x0 r3_0) (View.ld x1 r3_1) x2 (View.ld x3 r3_2) j
  · exact plain_piece 2 256 384 (by decide) rfl rfl _ _ inb_S1x2048_S1x128_0_256 inb_S1x2048_S1x128_0_384 inb_S1024x16x128_S1024x2x128_0_2_0 (View.ld x0 r3_0) (View.ld x1 r3_1) x2 (View.ld x3 r3_2) j
  · exact plain_piece 0 0 128 (by decide) rfl rfl _ _ inb_S1x2048_S1x128_0_0 inb_S1x2048_S1x128_0_128 inb_S1024x16x128_S1024x2x128_0_0_0 (View.ld x0 r3_0) (View.ld x1 r3_1) x2 (View.ld x3 r3_2) j

/-! ### The blocks' places -/

theorem index3_0 : ∀ t : Fin cfg3.N, win3_0.index t = ![(grid3.coords t 0).val, 0] := (by decide +kernel : ∀ t : Fin grid3.N, _)
theorem index3_1 : ∀ t : Fin cfg3.N, win3_1.index t = ![(grid3.coords t 1).val + 8, 0] := (by decide +kernel : ∀ t : Fin grid3.N, _)
theorem index3_2 : ∀ t : Fin cfg3.N, win3_2.index t = ![0, (grid3.coords t 1).val + 8] := (by decide +kernel : ∀ t : Fin grid3.N, _)
theorem index3_3 : ∀ t : Fin cfg3.N, win3_3.index t = ![(grid3.coords t 0).val, 0] := (by decide +kernel : ∀ t : Fin grid3.N, _)
theorem index3_6 : ∀ t : Fin cfg3.N, win3_6.index t = ![(grid3.coords t 0).val, (grid3.coords t 1).val, 0] := (by decide +kernel : ∀ t : Fin grid3.N, _)

/-- The projection leaves the array of heads of its inputs. -/
theorem final3 (V : (c : Dev nD) → (b : Ref sig .tc) → Buf (Elt Ideal) ((c : Thread nD τ).loc b)) (c : Dev nD) :
    (dat3 (F := Ideal) V c).arrAt 6 cfg3.N
      = plainArray 16384 (by decide) (V c main_v15_0) (V c main_arg2) (V c main_v16) (V c main_v15_2) := by
  refine (dat3 (F := Ideal) V c).arrAt_eq_of_covers 6 _ (by decide +kernel) fun t hf y => ?_
  blk_simp
  rw [after3_6, out3_6_eq]
  refine plainBlock_eq 16384 (grid3.coords t 0).val (grid3.coords t 1).val (by decide) _ _ _ _ _ _ _ _ ?_ ?_ ?_ ?_ _ _ ?_ ?_ ?_
  · intro r k i hi
    blk_simp [iblk3]
    congr 1
    blk_ext [index3_0]
  · intro n k i hi
    blk_simp [iblk3]
    congr 1
    blk_ext [index3_1]
  · intro n i hi
    blk_simp [iblk3]
    congr 1
    blk_ext [index3_2]
  · intro r l i hi
    blk_simp [iblk3]
    congr 1
    blk_ext [index3_3]
  · blk_simp [index3_6]
  · blk_simp [index3_6]
  · blk_simp [index3_6]

end Cert.Proof

end
-- ==== Proof.Tokens.lean ====
/- The tokens' numbering: token `b * 3072 + s` is the one at place `s` of sequence `b`; and the reshapes between an
   array over sequences and places and the array over tokens, read at an index. -/
module

public import Idealize.ShloMosaic.Lib.Pointwise

@[expose] public section

noncomputable section

namespace Cert.Proof

open Idealize.ShloMosaic

/-- The token at place `s` of sequence `b`. -/
def token (b : Fin 8) (s : Fin 3072) : Fin 24576 := ⟨b.val * 3072 + s.val, by omega⟩
/-- A token's sequence. -/
def batch (r : Fin 24576) : Fin 8 := ⟨r.val / 3072, by omega⟩
/-- A token's place in its sequence. -/
def place (r : Fin 24576) : Fin 3072 := ⟨r.val % 3072, by omega⟩

/-- The sequence of the token at place `s` of sequence `b` is `b`. -/
theorem batch_token (b : Fin 8) (s : Fin 3072) : batch (token b s) = b := Fin.ext (by show (b.val * 3072 + s.val) / 3072 = b.val; omega)
/-- Its place is `s`. -/
theorem place_token (b : Fin 8) (s : Fin 3072) : place (token b s) = s := Fin.ext (by show (b.val * 3072 + s.val) % 3072 = s.val; omega)

variable {α : Type}

/-- Rows by sequences and places become rows by tokens. -/
theorem cast_rows (x : (⟨3, ![8, 3072, 7168]⟩ : Shape).Idx → α) (h : Shape.ShapeCasts ⟨3, ![8, 3072, 7168]⟩ ⟨2, ![24576, 7168]⟩)
    (r : Fin 24576) (j : Fin 7168) : shapeCast ⟨2, ![24576, 7168]⟩ x h (ix2 r j) = x (ix3 (batch r) (place r) j) :=
  shapeCast_apply x h (ix2 r j) (ix3 (batch r) (place r) j) (by
    rw [Shape.rowMajor_val_two, Shape.rowMajor_val_three]
    show (r.val / 3072 * 3072 + r.val % 3072) * 7168 + j.val = r.val * 7168 + j.val
    omega)

/-- Numbers by sequences and places become a column by tokens. -/
theorem cast_column (x : (⟨2, ![8, 3072]⟩ : Shape).Idx → α) (h : Shape.ShapeCasts ⟨2, ![8, 3072]⟩ ⟨2, ![24576, 1]⟩)
    (r : Fin 24576) : shapeCast ⟨2, ![24576, 1]⟩ x h (ix2 r 0) = x (ix2 (batch r) (place r)) :=
  shapeCast_apply x h (ix2 r 0) (ix2 (batch r) (place r)) (by
    rw [Shape.rowMajor_val_two, Shape.rowMajor_val_two]
    show r.val / 3072 * 3072 + r.val % 3072 = r.val * 1 + 0
    omega)

/-- A list becomes a row. -/
theorem cast_row {n : ℕ} (x : (⟨1, ![n]⟩ : Shape).Idx → α) (h : Shape.ShapeCasts ⟨1, ![n]⟩ ⟨2, ![1, n]⟩)
    (j : Fin n) : shapeCast ⟨2, ![1, n]⟩ x h (ix2 0 j) = x (ix1 j) :=
  shapeCast_apply x h (ix2 0 j) (ix1 j) (by
    rw [Shape.rowMajor_val_two, Shape.rowMajor_val_one]
    show j.val = 0 * n + j.val
    omega)

/-- Rows by tokens become rows by sequences and places. -/
theorem uncast_rows {n : ℕ} (x : (⟨2, ![24576, n]⟩ : Shape).Idx → α) (h : Shape.ShapeCasts ⟨2, ![24576, n]⟩ ⟨3, ![8, 3072, n]⟩)
    (b : Fin 8) (s : Fin 3072) (j : Fin n) : shapeCast ⟨3, ![8, 3072, n]⟩ x h (ix3 b s j) = x (ix2 (token b s) j) :=
  shapeCast_apply x h (ix3 b s j) (ix2 (token b s) j) (by
    rw [Shape.rowMajor_val_two, Shape.rowMajor_val_three]
    rfl)

/-- Heads by tokens become heads by sequences and places. -/
theorem uncast_heads (x : (⟨3, ![24576, 64, 128]⟩ : Shape).Idx → α) (h : Shape.ShapeCasts ⟨3, ![24576, 64, 128]⟩ ⟨4, ![8, 3072, 64, 128]⟩)
    (b : Fin 8) (s : Fin 3072) (g : Fin 64) (l : Fin 128) : shapeCast ⟨4, ![8, 3072, 64, 128]⟩ x h (ix4 b s g l) = x (ix3 (token b s) g l) :=
  shapeCast_apply x h (ix4 b s g l) (ix3 (token b s) g l) (by
    rw [Shape.rowMajor_val_four, Shape.rowMajor_val_three]
    rfl)

/-- Lane `l` of head `g` of 64. -/
def lane (g : Fin 64) (l : Fin 128) : Fin 8192 := ⟨g.val * 128 + l.val, by omega⟩

/-- Rows of 8192 lanes become 64 heads of 128. -/
theorem split_heads (x : (⟨3, ![8, 3072, 8192]⟩ : Shape).Idx → α) (h : Shape.ShapeCasts ⟨3, ![8, 3072, 8192]⟩ ⟨4, ![8, 3072, 64, 128]⟩)
    (b : Fin 8) (s : Fin 3072) (g : Fin 64) (l : Fin 128) : shapeCast ⟨4, ![8, 3072, 64, 128]⟩ x h (ix4 b s g l) = x (ix3 b s (lane g l)) :=
  shapeCast_apply x h (ix4 b s g l) (ix3 b s (lane g l)) (by
    rw [Shape.rowMajor_val_four, Shape.rowMajor_val_three]
    show (b.val * 3072 + s.val) * 8192 + (g.val * 128 + l.val) = ((b.val * 3072 + s.val) * 64 + g.val) * 128 + l.val
    omega)

end Cert.Proof

end
-- ==== Proof.Results.lean ====
/- The five results, as functions of the arguments read at indices. -/
module

public import proofs.«01_k».proof.Proof.Spec
public import proofs.«01_k».proof.Proof.Tokens

@[expose] public section

noncomputable section

namespace Cert.Proof

open Idealize.ShloMosaic

/-- The arguments' arrays read at indices: tokens by sequence and place. -/
def arguments (x : Vec Ideal ⟨3, ![8, 3072, 7168]⟩ .bf16) (g : Vec Ideal ⟨1, ![7168]⟩ .f32) (w : Vec Ideal ⟨2, ![24576, 7168]⟩ .fp8e4m3)
    (ws : Vec Ideal ⟨1, ![24576]⟩ .f32) (p : Vec Ideal ⟨2, ![8, 3072]⟩ .i32) : Arguments where
  x r k := x (ix3 (batch r) (place r) k)
  gain k := g (ix1 k)
  w n k := w (ix2 n k)
  wscale n := ws (ix1 n)
  position r := p (ix2 (batch r) (place r))

/-- The word of zero bits reads as zero. -/
theorem ofBits_zeroWord : Ideal.ofBits .f32 0x00000000#32 = 0 := by simp [Ideal.ofBits, Ideal.ieee]

/-- Head `g` of the queries among the 192 heads. -/
def queryHead (g : Fin 64) : Fin 192 := ⟨g.val, by omega⟩
/-- Head `g` of the keys. -/
def keyHead (g : Fin 64) : Fin 192 := ⟨64 + g.val, by omega⟩
/-- Head `g` of the values. -/
def valueHead (g : Fin 64) : Fin 192 := ⟨128 + g.val, by omega⟩

/-- The queries. -/
def queries (A : Arguments) : Vec Ideal ⟨4, ![8, 3072, 64, 128]⟩ .bf16 := fun i => A.rotatedHead (token (i 0) (i 1)) (queryHead (i 2)) (i 3)
/-- The keys. -/
def keys (A : Arguments) : Vec Ideal ⟨4, ![8, 3072, 64, 128]⟩ .bf16 := fun i => A.rotatedHead (token (i 0) (i 1)) (keyHead (i 2)) (i 3)
/-- The values. -/
def values (A : Arguments) : Vec Ideal ⟨4, ![8, 3072, 64, 128]⟩ .bf16 := fun i => A.head (token (i 0) (i 1)) (valueHead (i 2)) (i 3)
/-- The codes. -/
def tokenCodes (A : Arguments) : Vec Ideal ⟨3, ![8, 3072, 7168]⟩ .fp8e4m3 := fun i => A.tokenCodes (token (i 0) (i 1)) (i 2)
/-- The scales. -/
def tokenScales (A : Arguments) : Vec Ideal ⟨3, ![8, 3072, 1]⟩ .f32 := fun i => A.tokenScale (token (i 0) (i 1))

end Cert.Proof

end
-- ==== Proof.KernelValue.lean ====
/- The kernel's five results, index by index. -/
module

public import proofs.«01_k».proof.Proof.KernelRun
public import proofs.«01_k».proof.Proof.QuantArrays
public import proofs.«01_k».proof.Proof.Project1
public import proofs.«01_k».proof.Proof.Project2
public import proofs.«01_k».proof.Proof.Project3
public import proofs.«01_k».proof.Proof.Results

@[expose] public section

noncomputable section

namespace Cert.Proof

open Cert.KernelIdeal Cert.KernelIdeal.Gen Idealize.ShloMosaic Idealize.ShloMosaic.TcCoe Idealize.SL.Sem
open scoped BigOperators

/-! ### The frequencies -/

/-- The frequency of a lane: lanes `l` and `l + 64` share one. -/
def laneFrequency (l : Fin 128) : EReal :=
  if h : l.val < 64 then frequency ⟨l.val, h⟩ else frequency ⟨l.val - 64, by omega⟩

/-- The table's entry is the pair's frequency. -/
theorem frequencies_apply (l : Fin 64) : frequencies (F := Ideal) (ix1 l) = frequency l := by
  unfold frequency
  rw [ofBits_zeroWord, zero_add]
  pointwise [frequencies]
  rfl

/-- The table twice, one after the other, read at a lane. -/
theorem lanes_apply (x : FVec Ideal S64 .f32) (l : Fin 128) :
    concatenate S128 0 [⟨S64, x⟩, ⟨S64, x⟩] concatenates_S64_S64_S128_d0 (ix1 l)
      = if h : l.val < 64 then x (ix1 ⟨l.val, h⟩) else x (ix1 ⟨l.val - 64, by omega⟩) := by
  pointwise []

/-! ### The arrays at indices, for any arguments -/

section

variable (A : Arguments) (x : Vec Ideal S24576x7168 .bf16) (g : Vec Ideal S1x7168 .f32) (p : Vec Ideal S24576x1 .i32) (f : Vec Ideal S1x128 .f32)
  (w : Vec Ideal S24576x7168 .fp8e4m3) (ws : Vec Ideal S1x24576 .f32)
  (hx : ∀ r k, x (ix2 r k) = A.x r k) (hg : ∀ k, g (ix2 0 k) = A.gain k) (hp : ∀ r, p (ix2 r 0) = A.position r)
  (hf : ∀ l, f (ix2 0 l) = laneFrequency l) (hw : ∀ n k, w (ix2 n k) = A.w n k) (hws : ∀ n, ws (ix2 0 n) = A.wscale n)

include hx hg in
/-- The row's normalised values are the token's. -/
theorem norm_read (r : Fin 24576) : norm (fun k => x (ix2 r k)) (gainRow g) = A.h r := by
  rw [show (fun k => x (ix2 r k)) = A.x r from funext fun k => hx r k, show gainRow g = A.gain from funext fun k => hg k]
  rfl

include hx hg in
/-- Its codes are the token's. -/
theorem codesArray_read (r : Fin 24576) (j : Fin 7168) : codesArray x g (ix2 r j) = A.tokenCodes r j :=
  congrArg (fun h => codes h j) (norm_read A x g hx hg r)

include hx hg in
/-- Its scale is the token's. -/
theorem scaleArray_read (r : Fin 24576) : scaleArray x g (ix2 r 0) = A.tokenScale r :=
  congrArg (fun h => scale (share h)) (norm_read A x g hx hg r)

include hx hg in
/-- So is the scale in every lane. -/
theorem scaleLanesArray_read (r : Fin 24576) (l : Fin 128) : scaleLanesArray x g (ix2 r l) = A.tokenScale r :=
  congrArg (fun h => scale (share h)) (norm_read A x g hx hg r)

include hp hf in
/-- Its cosines are those of the token's angles. -/
theorem cosineArray_read (r : Fin 24576) (l : Fin 128) : cosineArray p f (ix2 r l) = Ideal.cos (angle (A.position r) (laneFrequency l)) := by
  show Ideal.cos (angle (p (ix2 r 0)) (f (ix2 0 l))) = _
  rw [hp, hf]

include hp hf in
/-- Its sines are those of the token's angles, negated in the first 64 lanes. -/
theorem sineArray_read (r : Fin 24576) (l : Fin 128) : sineArray p f (ix2 r l)
    = if l.val < 64 then -Ideal.sin (angle (A.position r) (laneFrequency l)) else Ideal.sin (angle (A.position r) (laneFrequency l)) := by
  show (if l.val < 64 then -Ideal.sin (angle (p (ix2 r 0)) (f (ix2 0 l))) else Ideal.sin (angle (p (ix2 r 0)) (f (ix2 0 l)))) = _
  rw [hp, hf]

include hx hg hw hws in
/-- A projection's head is the token's head before the rotation. -/
theorem arrayHead_read (base : ℕ) (hbase : base + 8192 ≤ 24576) (r : Fin 24576) (i : Fin 64) (e : Fin 192) (he : e.val * 128 = base + i.val * 128) (l : Fin 128) :
    arrayHead base hbase (codesArray x g) w ws (scaleLanesArray x g) r i l = A.head r e l := by
  have hn : (⟨base + (i.val * 128 + l.val), by omega⟩ : Fin 24576) = ⟨e.val * 128 + l.val, by omega⟩ := Fin.ext (by
    show base + (i.val * 128 + l.val) = e.val * 128 + l.val
    omega)
  unfold arrayHead
  rw [hn, hws, scaleLanesArray_read A x g hx hg, show (fun k => codesArray x g (ix2 r k)) = A.tokenCodes r from funext fun k => codesArray_read A x g hx hg r k,
    show (fun k => w (ix2 (⟨e.val * 128 + l.val, by omega⟩ : Fin 24576) k)) = A.w ⟨e.val * 128 + l.val, by omega⟩ from funext fun k => hw _ k]
  rfl

/-- The rotation as the kernel writes it: the other half comes from the lane 64 further round, and the sine bears the sign. -/
theorem rotated_of_turn (y : Fin 128 → EReal) (p : BitVec 32) (l : Fin 128) :
    y l * Ideal.cos (angle p (laneFrequency l)) + y ⟨(l.val + 64) % 128, Nat.mod_lt _ (by decide)⟩
      * (if l.val < 64 then -Ideal.sin (angle p (laneFrequency l)) else Ideal.sin (angle p (laneFrequency l))) = rotated y p l := by
  unfold rotated laneFrequency
  by_cases h : l.val < 64
  · rw [dif_pos h, dif_pos h, if_pos h, mul_neg, ← sub_eq_add_neg,
      show (⟨(l.val + 64) % 128, Nat.mod_lt _ (by decide)⟩ : Fin 128) = ⟨l.val + 64, by omega⟩ from Fin.ext (by show (l.val + 64) % 128 = l.val + 64; omega)]
  · rw [dif_neg h, dif_neg h, if_neg h,
      show (⟨(l.val + 64) % 128, Nat.mod_lt _ (by decide)⟩ : Fin 128) = ⟨l.val - 64, by omega⟩ from Fin.ext (by show (l.val + 64) % 128 = l.val - 64; omega)]

include hx hg hp hf hw hws in
/-- A projection's turned head is the token's head after the rotation. -/
theorem turnedArray_read (base : ℕ) (hbase : base + 8192 ≤ 24576) (r : Fin 24576) (i : Fin 64) (e : Fin 192) (he : e.val * 128 = base + i.val * 128) (l : Fin 128) :
    turnedArray base hbase (codesArray x g) w ws (scaleLanesArray x g) (cosineArray p f) (sineArray p f) (ix3 r i l) = A.rotatedHead r e l := by
  refine Eq.trans ?_ (rotated_of_turn (A.head r e) (A.position r) l)
  rw [← cosineArray_read A p f hp hf, ← sineArray_read A p f hp hf, ← arrayHead_read A x g w ws hx hg hw hws base hbase r i e he l,
    ← arrayHead_read A x g w ws hx hg hw hws base hbase r i e he ⟨(l.val + 64) % 128, Nat.mod_lt _ (by decide)⟩]
  rfl

end

/-! ### The results -/

section

variable (m : (ℓ : Loc nD τ sig) → Buf (Elt Ideal) ℓ) (ρ : Dev nD → PrngReg) (c : Dev nD)

/-- The kernel's arguments. -/
abbrev kernelArguments : Arguments :=
  arguments (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- The quantiser's tokens are the first argument's. -/
theorem read_x (r : Fin 24576) (k : Fin 7168) : (V1 m ρ c main_v12 : Vec Ideal S24576x7168 .bf16) (ix2 r k) = (kernelArguments m c).x r k :=
  (congrFun (W1_v12 m ρ c) (ix2 r k)).trans (cast_rows _ _ r k)

/-- Its gain is the second argument. -/
theorem read_gain (k : Fin 7168) : (V1 m ρ c main_v13 : Vec Ideal S1x7168 .f32) (ix2 0 k) = (kernelArguments m c).gain k :=
  (congrFun (W1_v13 m ρ c) (ix2 0 k)).trans (cast_row _ _ k)

/-- Its positions are the fifth argument's. -/
theorem read_position (r : Fin 24576) : (V1 m ρ c main_v14 : Vec Ideal S24576x1 .i32) (ix2 r 0) = (kernelArguments m c).position r :=
  (congrFun (W1_v14 m ρ c) (ix2 r 0)).trans (cast_column _ _ r)

/-- Its row of frequencies holds each lane's. -/
theorem read_frequency (l : Fin 128) : (V1 m ρ c main_v11 : Vec Ideal S1x128 .f32) (ix2 0 l) = laneFrequency l := by
  refine (congrFun (W1_v11 m ρ c) (ix2 0 l)).trans ((cast_row _ _ l).trans ((lanes_apply _ l).trans ?_))
  unfold laneFrequency
  simp only [frequencies_apply]

/-- The projections' row of scales is the fourth argument. -/
theorem read_wscale (n : Fin 24576) :
    (shapeCast S1x24576 (m ((c.tc : Thread nD τ).loc main_arg3)) shapeCasts_S24576_S1x24576 : Vec Ideal S1x24576 .f32) (ix2 0 n) = (kernelArguments m c).wscale n :=
  cast_row _ _ n

/-- What the queries' projection leaves. -/
theorem kernel_array_queries : (dat1 (F := Ideal) (V3 m ρ) c).arrAt 6 cfg1.N
    = turnedArray 0 (by decide) (codesArray (V1 m ρ c main_v12) (V1 m ρ c main_v13)) (m ((c.tc : Thread nD τ).loc main_arg2))
      (shapeCast S1x24576 (m ((c.tc : Thread nD τ).loc main_arg3)) shapeCasts_S24576_S1x24576) (scaleLanesArray (V1 m ρ c main_v12) (V1 m ρ c main_v13))
      (cosineArray (V1 m ρ c main_v14) (V1 m ρ c main_v11)) (sineArray (V1 m ρ c main_v14) (V1 m ρ c main_v11)) := by
  rw [final1,
    show V3 m ρ c main_v15_0 = _ from (W3_v15_0 m ρ c).trans (final0_4 (V1 m ρ) c),
    show V3 m ρ c main_arg2 = _ from W3_arg2 m ρ c,
    show V3 m ρ c main_v16 = _ from W3_v16 m ρ c,
    show V3 m ρ c main_v15_2 = _ from (W3_v15_2 m ρ c).trans (final0_6 (V1 m ρ) c),
    show V3 m ρ c main_v15_3 = _ from (W3_v15_3 m ρ c).trans (final0_7 (V1 m ρ) c),
    show V3 m ρ c main_v15_4 = _ from (W3_v15_4 m ρ c).trans (final0_8 (V1 m ρ) c)]

/-- The kernel's queries. -/
theorem kernel_queries : W7 m ρ c (Proc.devRef .tc main_v20) = queries (kernelArguments m c) := by
  rw [W7_v20, kernel_array_queries]
  funext i
  obtain ⟨b, s, g, l, rfl⟩ : ∃ (b : Fin 8) (s : Fin 3072) (g : Fin 64) (l : Fin 128), i = ix4 b s g l := ⟨i 0, i 1, i 2, i 3, eq_ix4 i⟩
  refine (uncast_heads _ _ b s g l).trans ?_
  exact turnedArray_read (kernelArguments m c) _ _ _ _ _ _ (read_x m ρ c) (read_gain m ρ c) (read_position m ρ c) (read_frequency m ρ c)
    (fun _ _ => rfl) (read_wscale m c) _ _ _ g (queryHead g) (by simp only [queryHead]; omega) l

/-- What the keys' projection leaves. -/
theorem kernel_array_keys : (dat2 (F := Ideal) (V4 m ρ) c).arrAt 6 cfg2.N
    = turnedArray 8192 (by decide) (codesArray (V1 m ρ c main_v12) (V1 m ρ c main_v13)) (m ((c.tc : Thread nD τ).loc main_arg2))
      (shapeCast S1x24576 (m ((c.tc : Thread nD τ).loc main_arg3)) shapeCasts_S24576_S1x24576) (scaleLanesArray (V1 m ρ c main_v12) (V1 m ρ c main_v13))
      (cosineArray (V1 m ρ c main_v14) (V1 m ρ c main_v11)) (sineArray (V1 m ρ c main_v14) (V1 m ρ c main_v11)) := by
  rw [final2,
    show V4 m ρ c main_v15_0 = _ from (W4_v15_0 m ρ c).trans (final0_4 (V1 m ρ) c),
    show V4 m ρ c main_arg2 = _ from W4_arg2 m ρ c,
    show V4 m ρ c main_v16 = _ from W4_v16 m ρ c,
    show V4 m ρ c main_v15_2 = _ from (W4_v15_2 m ρ c).trans (final0_6 (V1 m ρ) c),
    show V4 m ρ c main_v15_3 = _ from (W4_v15_3 m ρ c).trans (final0_7 (V1 m ρ) c),
    show V4 m ρ c main_v15_4 = _ from (W4_v15_4 m ρ c).trans (final0_8 (V1 m ρ) c)]

/-- The kernel's keys. -/
theorem kernel_keys : W7 m ρ c (Proc.devRef .tc main_v21) = keys (kernelArguments m c) := by
  rw [W7_v21, kernel_array_keys]
  funext i
  obtain ⟨b, s, g, l, rfl⟩ : ∃ (b : Fin 8) (s : Fin 3072) (g : Fin 64) (l : Fin 128), i = ix4 b s g l := ⟨i 0, i 1, i 2, i 3, eq_ix4 i⟩
  refine (uncast_heads _ _ b s g l).trans ?_
  exact turnedArray_read (kernelArguments m c) _ _ _ _ _ _ (read_x m ρ c) (read_gain m ρ c) (read_position m ρ c) (read_frequency m ρ c)
    (fun _ _ => rfl) (read_wscale m c) _ _ _ g (keyHead g) (by simp only [keyHead]; omega) l

/-- What the values' projection leaves. -/
theorem kernel_array_values : (dat3 (F := Ideal) (V5 m ρ) c).arrAt 6 cfg3.N
    = plainArray 16384 (by decide) (codesArray (V1 m ρ c main_v12) (V1 m ρ c main_v13)) (m ((c.tc : Thread nD τ).loc main_arg2))
      (shapeCast S1x24576 (m ((c.tc : Thread nD τ).loc main_arg3)) shapeCasts_S24576_S1x24576) (scaleLanesArray (V1 m ρ c main_v12) (V1 m ρ c main_v13)) := by
  rw [final3,
    show V5 m ρ c main_v15_0 = _ from (W5_v15_0 m ρ c).trans (final0_4 (V1 m ρ) c),
    show V5 m ρ c main_arg2 = _ from W5_arg2 m ρ c,
    show V5 m ρ c main_v16 = _ from W5_v16 m ρ c,
    show V5 m ρ c main_v15_2 = _ from (W5_v15_2 m ρ c).trans (final0_6 (V1 m ρ) c)]

/-- The kernel's values. -/
theorem kernel_values : W7 m ρ c (Proc.devRef .tc main_v22) = values (kernelArguments m c) := by
  rw [W7_v22, kernel_array_values]
  funext i
  obtain ⟨b, s, g, l, rfl⟩ : ∃ (b : Fin 8) (s : Fin 3072) (g : Fin 64) (l : Fin 128), i = ix4 b s g l := ⟨i 0, i 1, i 2, i 3, eq_ix4 i⟩
  refine (uncast_heads _ _ b s g l).trans ?_
  exact arrayHead_read (kernelArguments m c) _ _ _ _ (read_x m ρ c) (read_gain m ρ c)
    (fun _ _ => rfl) (read_wscale m c) _ _ _ g (valueHead g) (by simp only [valueHead]; omega) l

/-- The kernel's codes. -/
theorem kernel_tokenCodes : W7 m ρ c (Proc.devRef .tc main_v23) = tokenCodes (kernelArguments m c) := by
  rw [W7_v23, final0_4]
  funext i
  obtain ⟨b, s, j, rfl⟩ : ∃ (b : Fin 8) (s : Fin 3072) (j : Fin 7168), i = ix3 b s j := ⟨i 0, i 1, i 2, eq_ix3 i⟩
  exact (uncast_rows _ _ b s j).trans (codesArray_read (kernelArguments m c) _ _ (read_x m ρ c) (read_gain m ρ c) _ j)

/-- The kernel's scales. -/
theorem kernel_tokenScales : W7 m ρ c (Proc.devRef .tc main_v24) = tokenScales (kernelArguments m c) := by
  rw [W7_v24, final0_5]
  funext i
  obtain ⟨b, s, j, rfl⟩ : ∃ (b : Fin 8) (s : Fin 3072) (j : Fin 1), i = ix3 b s j := ⟨i 0, i 1, i 2, eq_ix3 i⟩
  obtain rfl : j = 0 := Fin.ext (by omega)
  exact (uncast_rows _ _ b s 0).trans (scaleArray_read (kernelArguments m c) _ _ (read_x m ρ c) (read_gain m ρ c) _)

end

end Cert.Proof

end
-- ==== Proof.RefRegion.lean ====
/- What the reference's quantiser and product compute, index by index, and what they leave in the three arrays. -/
module

public import proofs.«01_k».proof.Proof.Spec
public import proofs.«01_k».proof.Proof.Gen.ReferenceIdeal.Run
public import Idealize.ShloMosaic.Lib.Pointwise
public import Idealize.ShloMosaic.Lib.Pipeline.ValueKit

@[expose] public section

noncomputable section

namespace Cert.Proof

open Cert.ReferenceIdeal Cert.ReferenceIdeal.Gen Idealize.ShloMosaic Idealize.ShloMosaic.TcCoe Idealize.SL.Sem
open Idealize.ShloMosaic.Pipeline (Dat)
open scoped BigOperators

/-- The largest magnitude of each token. -/
def refLargest (h : Vec Ideal S24576x7168 .f32) : FVec Ideal S24576x1 .f32 :=
  shapeCast S24576x1 (multiReduction .maximumf [1] S24576 (absf (shapeCast S24576x7168 h shapeCasts_S24576x7168_S24576x7168))
    0xFF800000#32 reduces_S24576x7168_S24576 (.inl rfl) rfl) shapeCasts_S24576_S24576x1

theorem refLargest_apply (h : Vec Ideal S24576x7168 .f32) (r : Fin 24576) :
    refLargest h (ix2 r 0) = (Finset.univ : Finset (Fin 7168)).fold max ⊥ (fun k => max (h (ix2 r k)) (-h (ix2 r k))) := by
  pointwise [refLargest]
  rw [ofBits_minus_infinity]
  rfl

/-- Values times the constant nearest 1/448. -/
def timesConstant (a : FVec Ideal S24576x1 .f32) : FVec Ideal S24576x1 .f32 :=
  mulf a (broadcast S24576x1 (Scalar.ofBits .f32 0x3B124925#32))

theorem timesConstant_apply (a : FVec Ideal S24576x1 .f32) (r : Fin 24576) :
    timesConstant a (ix2 r 0) = a (ix2 r 0) * Ideal.ofBits .f32 0x3B124925#32 := rfl

/-- The share of each token, as the reference computes it. -/
def refShare (h : Vec Ideal S24576x7168 .f32) : FVec Ideal S24576x1 .f32 := timesConstant (refLargest h)

theorem refShare_apply (h : Vec Ideal S24576x7168 .f32) (r : Fin 24576) : refShare h (ix2 r 0) = share (fun k => h (ix2 r k)) := by
  rw [refShare, timesConstant_apply, refLargest_apply, share]

/-- The powers of two the reference chooses from. -/
def powers : FVec Ideal S1x253 .f32 :=
  exp2 (subf (sitofp .f32 (iota .tc S1x253 32 [1] iota_S1x253_d1_w32)) (broadcast S1x253 (Scalar.ofBits .f32 0x42FA0000#32)))

theorem powers_apply (j : Fin 253) : powers (ix2 0 j) = pow2 ((j.val : ℤ) - 125) := by
  rw [← exp2_index j.val j.isLt, ← ofBits_125]
  pointwise [powers]
  rfl

/-- The scale of each token, as the reference chooses it from the powers `p` for the shares `z`. -/
def refScale (p : FVec Ideal S1x253 .f32) (z : FVec Ideal S24576x1 .f32) : FVec Ideal S24576x1 .f32 :=
  select (ori (cmpf .olt z (broadcast S24576x1 (Scalar.ofBits .f32 0x00800000#32))) (cmpf .oeq z (broadcast S24576x1 (Scalar.ofBits .f32 0x7F800000#32))))
    (broadcast S24576x1 (Scalar.ofBits .f32 0x3F800000#32))
    (shapeCast S24576x1 (multiReduction .minimumf [1] S24576
      (select (cmpf .ogt (broadcastTo S24576x253 p broadcasts_S1x253_S24576x253) (broadcastTo S24576x253 z broadcasts_S24576x1_S24576x253))
        (broadcastTo S24576x253 (shapeCast S1x253 p shapeCasts_S1x253_S1x253) broadcasts_S1x253_S24576x253)
        (broadcast S24576x253 (Scalar.ofBits .f32 0x7F800000#32)))
      0x7F800000#32 reduces_S24576x253_S24576 (.inl rfl) rfl) shapeCasts_S24576_S24576x1)

theorem refScale_apply (p : FVec Ideal S1x253 .f32) (z : FVec Ideal S24576x1 .f32) (r : Fin 24576) :
    refScale p z (ix2 r 0) = if z (ix2 r 0) < pow2 (-126) ∨ z (ix2 r 0) = ⊤ then 1
      else (Finset.univ : Finset (Fin 253)).fold min ⊤ fun j => if z (ix2 r 0) < p (ix2 0 j) then p (ix2 0 j) else ⊤ := by
  pointwise [refScale]
  rw [ofBits_least, ofBits_infinity]
  generalize z (ix2 r 0) = u
  generalize (Finset.fold min (⊤ : EReal) _ (Finset.univ : Finset (Fin 253))) = f
  by_cases h1 : u < pow2 (-126) <;> by_cases h2 : u = ⊤ <;> simp [h1, h2, Scalar.select, IntOp.ori]

/-- The scale of each token, as the reference computes it. -/
theorem pay3_eq (h : Vec Ideal S24576x7168 .f32) : k0_pay3 (F := Ideal) h = refScale powers (refShare h) := rfl

theorem refPay3_apply (h : Vec Ideal S24576x7168 .f32) (r : Fin 24576) :
    k0_pay3 (F := Ideal) h (ix2 r 0) = scale (share (fun k => h (ix2 r k))) := by
  rw [pay3_eq, refScale_apply, refShare_apply, scale]
  simp only [powers_apply]

/-- The codes from the values and their scales. -/
def refCodes (h : Vec Ideal S24576x7168 .f32) (s : FVec Ideal S24576x1 .f32) : FVec Ideal S24576x7168 .fp8e4m3 :=
  truncf .fp8e4m3 (minimumf (broadcast S24576x7168 (Scalar.ofBits .f32 0x43E00000#32))
    (maximumf (broadcast S24576x7168 (Scalar.ofBits .f32 0xC3E00000#32))
      (mulf (shapeCast S24576x7168 h shapeCasts_S24576x7168_S24576x7168)
        (broadcastTo S24576x7168 (select (cmpf .olt s (broadcast S24576x1 (Scalar.ofBits .f32 0x7F000000#32)))
          (divf (broadcast S24576x1 (Scalar.ofBits .f32 0x3F800000#32)) s) (broadcast S24576x1 (Scalar.ofBits .f32 0x00000000#32))) broadcasts_S24576x1_S24576x7168))))
    bitsLt_fp8e4m3_f32

theorem refCodes_apply (h : Vec Ideal S24576x7168 .f32) (s : FVec Ideal S24576x1 .f32) (r : Fin 24576) (j : Fin 7168) :
    refCodes h s (ix2 r j) = min (Ideal.ofBits .f32 0x43E00000#32) (max (Ideal.ofBits .f32 0xC3E00000#32) (h (ix2 r j) * inverse (s (ix2 r 0)))) := by
  pointwise [refCodes]
  rw [ofBits_largest]
  rfl

theorem pay4_eq (h : Vec Ideal S24576x7168 .f32) : k0_pay4 (F := Ideal) h = refCodes h (k0_pay3 h) := rfl

theorem refPay4_apply (h : Vec Ideal S24576x7168 .f32) (r : Fin 24576) (j : Fin 7168) :
    k0_pay4 (F := Ideal) h (ix2 r j) = codes (fun k => h (ix2 r k)) j := by
  rw [pay4_eq, refCodes_apply, refPay3_apply, codes]

/-- The product. -/
theorem refPay1_apply (q w : Vec Ideal S24576x7168 .fp8e4m3) (r n : Fin 24576) :
    k0_pay1 (F := Ideal) q w (ix2 r n) = product (fun k => q (ix2 r k)) (fun k => w (ix2 n k)) := by
  pointwise [k0_pay1, product]

/-! ### What the three arrays hold -/

section

variable (h : Vec Ideal S24576x7168 .f32) (w : Vec Ideal S24576x7168 .fp8e4m3)

theorem zero_starts' : (![0, 0] : Fin 2 → ℕ) = fun _ => 0 := funext fun a => by fin_cases a <;> rfl

theorem refOut2_eq : out0_2 (F := Ideal) h w = k0_pay4 h := by
  unfold out0_2 k0_pay5
  rw [View.canon_unit_zero zero_starts', View.ld_unit_zero zero_starts']

theorem refOut3_eq : out0_3 (F := Ideal) h w = k0_pay3 h := by
  unfold out0_3
  rw [View.canon_unit_zero zero_starts', View.ld_unit_zero zero_starts']

theorem refOut4_eq : out0_4 (F := Ideal) h w = k0_pay1 (k0_pay4 h) w := by
  unfold out0_4 k0_pay5
  rw [View.canon_unit_zero zero_starts', View.ld_unit_zero zero_starts', View.ld_unit_zero zero_starts']

end

theorem refIndex_0 : ∀ t : Fin cfg0.N, win0_0.index t = ![0, 0] := (by decide +kernel : ∀ t : Fin grid0.N, _)
theorem refIndex_1 : ∀ t : Fin cfg0.N, win0_1.index t = ![0, 0] := (by decide +kernel : ∀ t : Fin grid0.N, _)
theorem refIndex_2 : ∀ t : Fin cfg0.N, win0_2.index t = ![0, 0] := (by decide +kernel : ∀ t : Fin grid0.N, _)
theorem refIndex_3 : ∀ t : Fin cfg0.N, win0_3.index t = ![0, 0] := (by decide +kernel : ∀ t : Fin grid0.N, _)
theorem refIndex_4 : ∀ t : Fin cfg0.N, win0_4.index t = ![0, 0] := (by decide +kernel : ∀ t : Fin grid0.N, _)

section

variable (m : (ℓ : Loc nD τ sig) → Buf (Elt Ideal) ℓ) (c : Dev nD)

theorem refBlock_0 (t : Fin cfg0.N) : (iblk (F := Ideal) m c 0 t : Vec Ideal S24576x7168 .f32) = V m c main_v14 := by
  funext i
  blk_simp [iblk]
  congr 1
  blk_ext [refIndex_0]

theorem refBlock_1 (t : Fin cfg0.N) : (iblk (F := Ideal) m c 1 t : Vec Ideal S24576x7168 .fp8e4m3) = V m c main_arg2 := by
  funext i
  blk_simp [iblk]
  congr 1
  blk_ext [refIndex_1]

theorem refFinal_2 : (dats (F := Ideal) m 0 c).arrAt 2 cfg0.N = k0_pay4 (V m c main_v14) := by
  refine (dats (F := Ideal) m 0 c).arrAt_eq_of_covers 2 _ (by decide +kernel) fun t hf y => ?_
  blk_simp
  rw [after0_2, refOut2_eq, refBlock_0]
  refine congrArg (k0_pay4 (V m c main_v14)) ?_
  blk_ext [refIndex_2]

theorem refFinal_3 : (dats (F := Ideal) m 0 c).arrAt 3 cfg0.N = k0_pay3 (V m c main_v14) := by
  refine (dats (F := Ideal) m 0 c).arrAt_eq_of_covers 3 _ (by decide +kernel) fun t hf y => ?_
  blk_simp
  rw [after0_3, refOut3_eq, refBlock_0]
  refine congrArg (k0_pay3 (V m c main_v14)) ?_
  blk_ext [refIndex_3]

theorem refFinal_4 : (dats (F := Ideal) m 0 c).arrAt 4 cfg0.N = k0_pay1 (k0_pay4 (V m c main_v14)) (V m c main_arg2) := by
  refine (dats (F := Ideal) m 0 c).arrAt_eq_of_covers 4 _ (by decide +kernel) fun t hf y => ?_
  blk_simp
  rw [after0_4, refOut4_eq, refBlock_0, refBlock_1]
  refine congrArg (k0_pay1 (k0_pay4 (V m c main_v14)) (V m c main_arg2)) ?_
  blk_ext [refIndex_4]

end

end Cert.Proof

end
-- ==== Proof.RefValue.lean ====
/- The reference's five results, index by index. -/
module

public import proofs.«01_k».proof.Proof.RefRegion
public import proofs.«01_k».proof.Proof.Results

@[expose] public section

noncomputable section

namespace Cert.Proof

open Cert.ReferenceIdeal Cert.ReferenceIdeal.Gen Cert.ReferenceIdeal.Value Idealize.ShloMosaic Idealize.ShloMosaic.TcCoe Idealize.SL.Sem
open scoped BigOperators

/-- The normalised values over sequences and places, as the reference computes them. -/
def refNorm (x : FVec Ideal S8x3072x7168 .bf16) (g : FVec Ideal S7168 .f32) : FVec Ideal S8x3072x7168 .f32 :=
  mulf (mulf (extf .f32 x bitsLt_bf16_f32) (broadcastInDim S8x3072x7168 ![0, 1, 2] bcast_S8x3072x1_S8x3072x7168_0_1_2
    (Host.rsqrt (addf (Host.divf (broadcastInDim S8x3072x1 ![0, 1] bcast_S8x3072_S8x3072x1_0_1
        (Host.reduceAdd (mulf (extf .f32 x bitsLt_bf16_f32) (extf .f32 x bitsLt_bf16_f32)) (constant S_ .f32 0x00000000#32) reducesTo_S8x3072x7168_S8x3072_d2 h_S_))
        (broadcastInDim S8x3072x1 ![] bcast_S_S8x3072x1 (constant S_ .f32 0x45E00000#32)))
      (broadcastInDim S8x3072x1 ![] bcast_S_S8x3072x1 (constant S_ .f32 0x358637BD#32))))))
    (broadcastInDim S8x3072x7168 ![0, 1, 2] bcast_S1x1x7168_S8x3072x7168_0_1_2 (broadcastInDim S1x1x7168 ![2] bcast_S7168_S1x1x7168_2 g))

/-- At an index it is the RMS norm of the token there. -/
theorem refNorm_apply (x : FVec Ideal S8x3072x7168 .bf16) (g : FVec Ideal S7168 .f32) (b : Fin 8) (s : Fin 3072) (j : Fin 7168) :
    refNorm x g (ix3 b s j) = norm (fun k => x (ix3 b s k)) (fun k => g (ix1 k)) j := by
  pointwise [refNorm]
  rfl

/-- What the quantiser reads: the normalised values by tokens. -/
theorem V_v14 (m : (ℓ : Loc nD τ sig) → Buf (Elt Ideal) ℓ) (c : Dev nD) :
    V m c main_v14 = shapeCast S24576x7168 (refNorm (m ((c.tc : Thread nD τ).loc main_arg0)) (m ((c.tc : Thread nD τ).loc main_arg1)))
      shapeCasts_S8x3072x7168_S24576x7168 := by
  simp only [V, V0, hostOps0, List.flatten_cons, List.flatten_nil, List.append_nil]
  after_results_simp
  rfl

/-! ### The operations after the product -/

/-- The product with both scales. -/
def rescale (acc : FVec Ideal S24576x24576 .f32) (scale : FVec Ideal S24576x1 .f32) (ws : FVec Ideal S24576 .f32) : FVec Ideal S8x3072x24576 .f32 :=
  mulf (mulf (shapeCast S8x3072x24576 acc shapeCasts_S24576x24576_S8x3072x24576)
      (broadcastInDim S8x3072x24576 ![0, 1, 2] bcast_S8x3072x1_S8x3072x24576_0_1_2 (shapeCast S8x3072x1 scale shapeCasts_S24576x1_S8x3072x1)))
    (broadcastInDim S8x3072x24576 ![0, 1, 2] bcast_S1x1x24576_S8x3072x24576_0_1_2 (broadcastInDim S1x1x24576 ![2] bcast_S24576_S1x1x24576_2 ws))

/-- At an index: the product, times the token's scale, times the row's. -/
theorem rescale_apply (acc : FVec Ideal S24576x24576 .f32) (scale : FVec Ideal S24576x1 .f32) (ws : FVec Ideal S24576 .f32)
    (b : Fin 8) (s : Fin 3072) (n : Fin 24576) :
    rescale acc scale ws (ix3 b s n) = acc (ix2 (token b s) n) * scale (ix2 (token b s) 0) * ws (ix1 n) := by
  pointwise [rescale]
  rfl

/-- The queries' heads are lanes 0 on of the product. -/
theorem queries_slice (y : FVec Ideal S8x3072x24576 .f32) (b : Fin 8) (s : Fin 3072) (g : Fin 64) (l : Fin 128) :
    shapeCast S8x3072x64x128 (extractStridedSlice S8x3072x8192 ![0, 0, 0] y slices_S8x3072x24576_S8x3072x8192_0_0_0)
      shapeCasts_S8x3072x8192_S8x3072x64x128 (ix4 b s g l) = y (ix3 b s ⟨(queryHead g).val * 128 + l.val, by have := (queryHead g).isLt; omega⟩) := by
  rw [split_heads]
  pointwise []
  refine congrArg (fun n => y (ix3 b s n)) (Fin.ext ?_)
  show _ = g.val * 128 + l.val
  simp [lane]

/-- The keys' heads are lanes 8192 on. -/
theorem keys_slice (y : FVec Ideal S8x3072x24576 .f32) (b : Fin 8) (s : Fin 3072) (g : Fin 64) (l : Fin 128) :
    shapeCast S8x3072x64x128 (extractStridedSlice S8x3072x8192 ![0, 0, 8192] y slices_S8x3072x24576_S8x3072x8192_0_0_8192)
      shapeCasts_S8x3072x8192_S8x3072x64x128 (ix4 b s g l) = y (ix3 b s ⟨(keyHead g).val * 128 + l.val, by have := (keyHead g).isLt; omega⟩) := by
  rw [split_heads]
  pointwise []
  refine congrArg (fun n => y (ix3 b s n)) (Fin.ext ?_)
  show _ = (64 + g.val) * 128 + l.val
  simp only [lane]
  omega

/-- The values' heads are lanes 16384 on. -/
theorem values_slice (y : FVec Ideal S8x3072x24576 .f32) (b : Fin 8) (s : Fin 3072) (g : Fin 64) (l : Fin 128) :
    shapeCast S8x3072x64x128 (extractStridedSlice S8x3072x8192 ![0, 0, 16384] y slices_S8x3072x24576_S8x3072x8192_0_0_16384)
      shapeCasts_S8x3072x8192_S8x3072x64x128 (ix4 b s g l) = y (ix3 b s ⟨(valueHead g).val * 128 + l.val, by have := (valueHead g).isLt; omega⟩) := by
  rw [split_heads]
  pointwise []
  refine congrArg (fun n => y (ix3 b s n)) (Fin.ext ?_)
  show _ = (128 + g.val) * 128 + l.val
  simp only [lane]
  omega

section

variable (V : Valuation τ sig (Elt Ideal))

/-- The angles. -/
theorem v45_apply (b : Fin 8) (s : Fin 3072) (l : Fin 64) :
    (res_main_v45 V : FVec Ideal S8x3072x64 .f32) (ix3 b s l) = angle ((V (Proc.devRef .tc main_arg4) : IVec S8x3072 32) (ix2 b s)) (frequency l) := by
  unfold frequency
  rw [ofBits_zeroWord, zero_add]
  pointwise [res_main_v45]
  rfl

/-- Their cosines. -/
theorem v47_apply (b : Fin 8) (s : Fin 3072) (l : Fin 64) :
    (res_main_v47 V : FVec Ideal S8x3072x1x64 .f32) (ix4 b s 0 l) = Ideal.cos (angle ((V (Proc.devRef .tc main_arg4) : IVec S8x3072 32) (ix2 b s)) (frequency l)) := by
  rw [← v45_apply V b s l]
  pointwise [res_main_v47]

/-- Their sines. -/
theorem v49_apply (b : Fin 8) (s : Fin 3072) (l : Fin 64) :
    (res_main_v49 V : FVec Ideal S8x3072x1x64 .f32) (ix4 b s 0 l) = Ideal.sin (angle ((V (Proc.devRef .tc main_arg4) : IVec S8x3072 32) (ix2 b s)) (frequency l)) := by
  rw [← v45_apply V b s l]
  pointwise [res_main_v49]

end

/-- The heads `y` rotated by the cosines `co` and the sines `si`. -/
def rotate (y : FVec Ideal S8x3072x64x128 .f32) (co si : FVec Ideal S8x3072x1x64 .f32) : FVec Ideal S8x3072x64x128 .bf16 :=
  truncf .bf16 (concatenate S8x3072x64x128 3
    [⟨S8x3072x64x64, subf (mulf (extractStridedSlice S8x3072x64x64 ![0, 0, 0, 0] y slices_S8x3072x64x128_S8x3072x64x64_0_0_0_0) (broadcastInDim S8x3072x64x64 ![0, 1, 2, 3] bcast_S8x3072x1x64_S8x3072x64x64_0_1_2_3 co))
      (mulf (extractStridedSlice S8x3072x64x64 ![0, 0, 0, 64] y slices_S8x3072x64x128_S8x3072x64x64_0_0_0_64) (broadcastInDim S8x3072x64x64 ![0, 1, 2, 3] bcast_S8x3072x1x64_S8x3072x64x64_0_1_2_3 si))⟩,
     ⟨S8x3072x64x64, addf (mulf (extractStridedSlice S8x3072x64x64 ![0, 0, 0, 64] y slices_S8x3072x64x128_S8x3072x64x64_0_0_0_64) (broadcastInDim S8x3072x64x64 ![0, 1, 2, 3] bcast_S8x3072x1x64_S8x3072x64x64_0_1_2_3 co))
      (mulf (extractStridedSlice S8x3072x64x64 ![0, 0, 0, 0] y slices_S8x3072x64x128_S8x3072x64x64_0_0_0_0) (broadcastInDim S8x3072x64x64 ![0, 1, 2, 3] bcast_S8x3072x1x64_S8x3072x64x64_0_1_2_3 si))⟩]
    concatenates_S8x3072x64x64_S8x3072x64x64_S8x3072x64x128_d3) bitsLt_bf16_f32

/-- At an index it is the rotation of the head there. -/
theorem rotate_apply (y : FVec Ideal S8x3072x64x128 .f32) (co si : FVec Ideal S8x3072x1x64 .f32) (p : BitVec 32)
    (b : Fin 8) (s : Fin 3072) (g : Fin 64) (l : Fin 128)
    (hco : ∀ l : Fin 64, co (ix4 b s 0 l) = Ideal.cos (angle p (frequency l)))
    (hsi : ∀ l : Fin 64, si (ix4 b s 0 l) = Ideal.sin (angle p (frequency l))) :
    rotate y co si (ix4 b s g l) = rotated (fun l => y (ix4 b s g l)) p l := by
  pointwise [rotate, rotated]
  by_cases h : l.val < 64
  · rw [dif_pos h, dif_pos h, hco, hsi, show (⟨64 + l.val, by omega⟩ : Fin 128) = ⟨l.val + 64, by omega⟩ from Fin.ext (Nat.add_comm _ _)]
  · rw [dif_neg h, dif_neg h, hco, hsi, show (⟨64 + (l.val - 64), by omega⟩ : Fin 128) = l from Fin.ext (by show 64 + (l.val - 64) = l.val; omega)]

/-! ### The results -/

section

variable (m : (ℓ : Loc nD τ sig) → Buf (Elt Ideal) ℓ) (c : Dev nD)

/-- The reference's arguments. -/
abbrev refArguments : Arguments :=
  arguments (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

/-- What the quantiser reads are the tokens' normalised values. -/
theorem ref_norm (r : Fin 24576) : (fun k => (V m c main_v14 : FVec Ideal S24576x7168 .f32) (ix2 r k)) = (refArguments m c).h r := by
  funext k
  rw [V_v14]
  exact (cast_rows _ _ r k).trans (refNorm_apply _ _ _ _ k)

/-- The quantiser leaves the tokens' codes. -/
theorem ref_codes (r : Fin 24576) (j : Fin 7168) :
    (reg_main_v15_0 m c : FVec Ideal S24576x7168 .fp8e4m3) (ix2 r j) = (refArguments m c).tokenCodes r j := by
  unfold reg_main_v15_0
  rw [refFinal_2]
  exact (refPay4_apply _ r j).trans (congrArg (fun h => codes h j) (ref_norm m c r))

/-- It leaves the tokens' scales. -/
theorem ref_scales (r : Fin 24576) :
    (reg_main_v15_1 m c : FVec Ideal S24576x1 .f32) (ix2 r 0) = (refArguments m c).tokenScale r := by
  unfold reg_main_v15_1
  rw [refFinal_3]
  exact (refPay3_apply _ r).trans (congrArg (fun h => scale (share h)) (ref_norm m c r))

/-- The product is that of the codes with the rows of the weights. -/
theorem ref_product (r n : Fin 24576) :
    (reg_main_v15_2 m c : FVec Ideal S24576x24576 .f32) (ix2 r n) = product ((refArguments m c).tokenCodes r) ((refArguments m c).w n) := by
  unfold reg_main_v15_2
  rw [refFinal_4, V_main_arg2]
  refine (refPay1_apply _ _ r n).trans (congrArg (fun q => product q ((refArguments m c).w n)) (funext fun k => ?_))
  exact (refPay4_apply _ r k).trans (congrArg (fun h => codes h k) (ref_norm m c r))

/-- The product with both scales. -/
theorem ref_rescaled (b : Fin 8) (s : Fin 3072) (n : Fin 24576) :
    (res_main_v23 (exitV m c) : FVec Ideal S8x3072x24576 .f32) (ix3 b s n) = (refArguments m c).rescaled (token b s) n := by
  have e : (res_main_v23 (exitV m c) : FVec Ideal S8x3072x24576 .f32)
      = rescale (reg_main_v15_2 m c) (reg_main_v15_1 m c) (m ((c.tc : Thread nD τ).loc main_arg3)) := by
    unfold res_main_v23 rescale
    rw [exit_main_v15_2, exit_main_v15_1, exit_main_arg3]
    rfl
  rw [e, rescale_apply, ref_product, ref_scales]
  rfl

/-- The position the angles take. -/
theorem ref_position (b : Fin 8) (s : Fin 3072) :
    ((exitV m c) (Proc.devRef .tc main_arg4) : IVec S8x3072 32) (ix2 b s) = (refArguments m c).position (token b s) := by
  rw [exit_main_arg4]
  show _ = (m ((c.tc : Thread nD τ).loc main_arg4) : IVec S8x3072 32) (ix2 (batch (token b s)) (place (token b s)))
  rw [batch_token, place_token]

/-- The reference's queries. -/
theorem ref_queries : rotate (res_main_v25 (exitV m c)) (res_main_v47 (exitV m c)) (res_main_v49 (exitV m c)) = queries (refArguments m c) := by
  funext i
  obtain ⟨b, s, g, l, rfl⟩ : ∃ (b : Fin 8) (s : Fin 3072) (g : Fin 64) (l : Fin 128), i = ix4 b s g l := ⟨i 0, i 1, i 2, i 3, eq_ix4 i⟩
  refine (rotate_apply _ _ _ ((refArguments m c).position (token b s)) b s g l ?_ ?_).trans ?_
  · intro l
    rw [v47_apply, ref_position]
  · intro l
    rw [v49_apply, ref_position]
  · refine congrArg (fun y => rotated y ((refArguments m c).position (token b s)) l) (funext fun l => ?_)
    exact (queries_slice _ b s g l).trans (ref_rescaled m c b s _)

/-- The reference's keys. -/
theorem ref_keys : rotate (res_main_v27 (exitV m c)) (res_main_v47 (exitV m c)) (res_main_v49 (exitV m c)) = keys (refArguments m c) := by
  funext i
  obtain ⟨b, s, g, l, rfl⟩ : ∃ (b : Fin 8) (s : Fin 3072) (g : Fin 64) (l : Fin 128), i = ix4 b s g l := ⟨i 0, i 1, i 2, i 3, eq_ix4 i⟩
  refine (rotate_apply _ _ _ ((refArguments m c).position (token b s)) b s g l ?_ ?_).trans ?_
  · intro l
    rw [v47_apply, ref_position]
  · intro l
    rw [v49_apply, ref_position]
  · refine congrArg (fun y => rotated y ((refArguments m c).position (token b s)) l) (funext fun l => ?_)
    exact (keys_slice _ b s g l).trans (ref_rescaled m c b s _)

/-- The reference's values. -/
theorem ref_values : (truncf .bf16 (shapeCast S8x3072x64x128 (extractStridedSlice S8x3072x8192 ![0, 0, 16384] (res_main_v23 (exitV m c) : FVec Ideal S8x3072x24576 .f32)
      slices_S8x3072x24576_S8x3072x8192_0_0_16384) shapeCasts_S8x3072x8192_S8x3072x64x128) bitsLt_bf16_f32 : FVec Ideal S8x3072x64x128 .bf16) = values (refArguments m c) := by
  funext i
  obtain ⟨b, s, g, l, rfl⟩ : ∃ (b : Fin 8) (s : Fin 3072) (g : Fin 64) (l : Fin 128), i = ix4 b s g l := ⟨i 0, i 1, i 2, i 3, eq_ix4 i⟩
  exact (values_slice _ b s g l).trans (ref_rescaled m c b s _)

/-- The reference's codes. -/
theorem ref_tokenCodes : shapeCast S8x3072x7168 ((exitV m c) (Proc.devRef .tc main_v15_0) : FVec Ideal S24576x7168 .fp8e4m3) shapeCasts_S24576x7168_S8x3072x7168
    = tokenCodes (refArguments m c) := by
  funext i
  obtain ⟨b, s, j, rfl⟩ : ∃ (b : Fin 8) (s : Fin 3072) (j : Fin 7168), i = ix3 b s j := ⟨i 0, i 1, i 2, eq_ix3 i⟩
  rw [exit_main_v15_0]
  exact (uncast_rows _ _ b s j).trans (ref_codes m c _ j)

/-- The reference's scales. -/
theorem ref_tokenScales : shapeCast S8x3072x1 ((exitV m c) (Proc.devRef .tc main_v15_1) : FVec Ideal S24576x1 .f32) shapeCasts_S24576x1_S8x3072x1
    = tokenScales (refArguments m c) := by
  funext i
  obtain ⟨b, s, j, rfl⟩ : ∃ (b : Fin 8) (s : Fin 3072) (j : Fin 1), i = ix3 b s j := ⟨i 0, i 1, i 2, eq_ix3 i⟩
  obtain rfl : j = 0 := Fin.ext (by omega)
  rw [exit_main_v15_1]
  exact (uncast_rows _ _ b s 0).trans (ref_scales m c _)

end

end Cert.Proof

end
-- ==== Proof.lean ====
/- The five claims: the three programs' frames, the idealized kernel's rewritten pairs of halves, and that the idealized
   kernel and the reference end with the same five results. The last follows from KernelValue.lean and RefValue.lean,
   which show that each program's results are the same functions of its arguments (Results.lean). -/
module

public import proofs.«01_k».proof.Defs
public import proofs.«01_k».proof.Proof.Gen.Kernel.Frame
public import proofs.«01_k».proof.Proof.KernelValue
public import proofs.«01_k».proof.Proof.RefValue
public import Idealize.ShloMosaic.Lib.Bf16Pair

@[expose] public section

noncomputable section

namespace Cert.Proof

open Idealize.ShloMosaic Idealize.ShloMosaic.TcCoe Idealize.SL.Sem

/-- Two bf16 halves moved as a word are the two values moved: at the shapes where the kernel packs and stores them. -/
theorem preserves : Cert.preserves_Kernel_KernelIdeal :=
  ⟨IdealRules.bf16_pair.packStatement _, IdealRules.bf16_pair.statement _ _⟩

/-- From memories that agree on the arguments the two programs end with the same five results, and the arguments unchanged. -/
theorem algebraic : Cert.algebraic_KernelIdeal_ReferenceIdeal := by
  intro m g m' g' _ hm
  have hA : ∀ c : Dev Cert.KernelIdeal.nD, refArguments m' c = kernelArguments m c := fun c => by
    unfold refArguments kernelArguments
    rw [(hm c).1, (hm c).2.1, (hm c).2.2.1, (hm c).2.2.2.1, (hm c).2.2.2.2]
  refine ⟨fun c => queries (kernelArguments m c), fun c => keys (kernelArguments m c), fun c => values (kernelArguments m c),
    fun c => tokenCodes (kernelArguments m c), fun c => tokenScales (kernelArguments m c), ?_, ?_⟩
  · refine (θ_run _ _ _).mono (fun r h c => ?_) (kernel_run m g)
    obtain ⟨h0, h1, h2, h3, h4, ha⟩ := h c
    exact ⟨h0.trans (kernel_queries m g c), h1.trans (kernel_keys m g c), h2.trans (kernel_values m g c),
      h3.trans (kernel_tokenCodes m g c), h4.trans (kernel_tokenScales m g c), ha⟩
  · refine (θ_run _ _ _).mono (fun r h c => ?_) (Cert.ReferenceIdeal.Value.run m' g')
    obtain ⟨h0, h1, h2, h3, h4, ha⟩ := h c
    exact ⟨h0.trans ((ref_queries m' c).trans (congrArg queries (hA c))), h1.trans ((ref_keys m' c).trans (congrArg keys (hA c))),
      h2.trans ((ref_values m' c).trans (congrArg values (hA c))), h3.trans ((ref_tokenCodes m' c).trans (congrArg tokenCodes (hA c))),
      h4.trans ((ref_tokenScales m' c).trans (congrArg tokenScales (hA c))), ha⟩

/-- The five claims together. -/
theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, fun m g _ => Cert.ReferenceIdeal.Gen.frame m g, preserves, algebraic⟩

end Cert.Proof

end
